-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1)
      ∧ r.2.mem ((c.tc : Thread Cert.Table.nD Cert.Table.τ).loc Cert.Table.main_arg2) = m ((c.tc : Thread Cert.Table.nD Cert.Table.τ).loc Cert.Table.main_arg2)
      ∧ r.2.mem ((c.tc : Thread Cert.Table.nD Cert.Table.τ).loc Cert.Table.main_arg3) = m ((c.tc : Thread Cert.Table.nD Cert.Table.τ).loc Cert.Table.main_arg3)
      ∧ r.2.mem ((c.tc : Thread Cert.Table.nD Cert.Table.τ).loc Cert.Table.main_arg4) = m ((c.tc : Thread Cert.Table.nD Cert.Table.τ).loc Cert.Table.main_arg4)
      ∧ r.2.mem ((c.tc : Thread Cert.Table.nD Cert.Table.τ).loc Cert.Table.main_arg5) = m ((c.tc : Thread Cert.Table.nD Cert.Table.τ).loc Cert.Table.main_arg5)
      ∧ r.2.mem ((c.tc : Thread Cert.Table.nD Cert.Table.τ).loc Cert.Table.main_arg6) = m ((c.tc : Thread Cert.Table.nD Cert.Table.τ).loc Cert.Table.main_arg6))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
      ∧ r.2.mem ((c.tc : Thread Cert.TableIdeal.nD Cert.TableIdeal.τ).loc Cert.TableIdeal.main_arg2) = m ((c.tc : Thread Cert.TableIdeal.nD Cert.TableIdeal.τ).loc Cert.TableIdeal.main_arg2)
      ∧ r.2.mem ((c.tc : Thread Cert.TableIdeal.nD Cert.TableIdeal.τ).loc Cert.TableIdeal.main_arg3) = m ((c.tc : Thread Cert.TableIdeal.nD Cert.TableIdeal.τ).loc Cert.TableIdeal.main_arg3)
      ∧ r.2.mem ((c.tc : Thread Cert.TableIdeal.nD Cert.TableIdeal.τ).loc Cert.TableIdeal.main_arg4) = m ((c.tc : Thread Cert.TableIdeal.nD Cert.TableIdeal.τ).loc Cert.TableIdeal.main_arg4)
      ∧ r.2.mem ((c.tc : Thread Cert.TableIdeal.nD Cert.TableIdeal.τ).loc Cert.TableIdeal.main_arg5) = m ((c.tc : Thread Cert.TableIdeal.nD Cert.TableIdeal.τ).loc Cert.TableIdeal.main_arg5)
      ∧ r.2.mem ((c.tc : Thread Cert.TableIdeal.nD Cert.TableIdeal.τ).loc Cert.TableIdeal.main_arg6) = m ((c.tc : Thread Cert.TableIdeal.nD Cert.TableIdeal.τ).loc Cert.TableIdeal.main_arg6))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0)
      ∧ r.2.mem ((c.tc : Thread Cert.TableReferenceIdeal.nD Cert.TableReferenceIdeal.τ).loc Cert.TableReferenceIdeal.main_arg1) = m ((c.tc : Thread Cert.TableReferenceIdeal.nD Cert.TableReferenceIdeal.τ).loc Cert.TableReferenceIdeal.main_arg1)
      ∧ r.2.mem ((c.tc : Thread Cert.TableReferenceIdeal.nD Cert.TableReferenceIdeal.τ).loc Cert.TableReferenceIdeal.main_arg2) = m ((c.tc : Thread Cert.TableReferenceIdeal.nD Cert.TableReferenceIdeal.τ).loc Cert.TableReferenceIdeal.main_arg2)
      ∧ r.2.mem ((c.tc : Thread Cert.TableReferenceIdeal.nD Cert.TableReferenceIdeal.τ).loc Cert.TableReferenceIdeal.main_arg3) = m ((c.tc : Thread Cert.TableReferenceIdeal.nD Cert.TableReferenceIdeal.τ).loc Cert.TableReferenceIdeal.main_arg3)
      ∧ r.2.mem ((c.tc : Thread Cert.TableReferenceIdeal.nD Cert.TableReferenceIdeal.τ).loc Cert.TableReferenceIdeal.main_arg4) = m ((c.tc : Thread Cert.TableReferenceIdeal.nD Cert.TableReferenceIdeal.τ).loc Cert.TableReferenceIdeal.main_arg4)
      ∧ r.2.mem ((c.tc : Thread Cert.TableReferenceIdeal.nD Cert.TableReferenceIdeal.τ).loc Cert.TableReferenceIdeal.main_arg5) = m ((c.tc : Thread Cert.TableReferenceIdeal.nD Cert.TableReferenceIdeal.τ).loc Cert.TableReferenceIdeal.main_arg5)
      ∧ r.2.mem ((c.tc : Thread Cert.TableReferenceIdeal.nD Cert.TableReferenceIdeal.τ).loc Cert.TableReferenceIdeal.main_arg6) = m ((c.tc : Thread Cert.TableReferenceIdeal.nD Cert.TableReferenceIdeal.τ).loc Cert.TableReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Table_TableIdeal : Prop :=
  True

def algebraic_TableIdeal_TableReferenceIdeal [hTableIdeal : Cert.TableIdeal.Facts] [hTableReferenceIdeal : Cert.TableReferenceIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableIdeal m →
    (∀ c : Dev Cert.TableIdeal.nD,
      m' ((c.tc : Thread Cert.TableReferenceIdeal.nD Cert.TableReferenceIdeal.τ).loc Cert.TableReferenceIdeal.main_arg0) = m ((c.tc : Thread Cert.TableIdeal.nD Cert.TableIdeal.τ).loc Cert.TableIdeal.main_arg0)
      ∧ m' ((c.tc : Thread Cert.TableReferenceIdeal.nD Cert.TableReferenceIdeal.τ).loc Cert.TableReferenceIdeal.main_arg1) = m ((c.tc : Thread Cert.TableIdeal.nD Cert.TableIdeal.τ).loc Cert.TableIdeal.main_arg1)
      ∧ m' ((c.tc : Thread Cert.TableReferenceIdeal.nD Cert.TableReferenceIdeal.τ).loc Cert.TableReferenceIdeal.main_arg2) = m ((c.tc : Thread Cert.TableIdeal.nD Cert.TableIdeal.τ).loc Cert.TableIdeal.main_arg2)
      ∧ m' ((c.tc : Thread Cert.TableReferenceIdeal.nD Cert.TableReferenceIdeal.τ).loc Cert.TableReferenceIdeal.main_arg3) = m ((c.tc : Thread Cert.TableIdeal.nD Cert.TableIdeal.τ).loc Cert.TableIdeal.main_arg3)
      ∧ m' ((c.tc : Thread Cert.TableReferenceIdeal.nD Cert.TableReferenceIdeal.τ).loc Cert.TableReferenceIdeal.main_arg4) = m ((c.tc : Thread Cert.TableIdeal.nD Cert.TableIdeal.τ).loc Cert.TableIdeal.main_arg4)
      ∧ m' ((c.tc : Thread Cert.TableReferenceIdeal.nD Cert.TableReferenceIdeal.τ).loc Cert.TableReferenceIdeal.main_arg5) = m ((c.tc : Thread Cert.TableIdeal.nD Cert.TableIdeal.τ).loc Cert.TableIdeal.main_arg5)
      ∧ m' ((c.tc : Thread Cert.TableReferenceIdeal.nD Cert.TableReferenceIdeal.τ).loc Cert.TableReferenceIdeal.main_arg6) = m ((c.tc : Thread Cert.TableIdeal.nD Cert.TableIdeal.τ).loc Cert.TableIdeal.main_arg6)) →
    ∃ (v0 : (c : Dev Cert.TableIdeal.nD) → Buf (Elt Ideal) ((c.tc : Thread Cert.TableIdeal.nD Cert.TableIdeal.τ).loc Cert.TableIdeal.main_v3)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v3) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
          ∧ r.2.mem ((c.tc : Thread Cert.TableIdeal.nD Cert.TableIdeal.τ).loc Cert.TableIdeal.main_arg2) = m ((c.tc : Thread Cert.TableIdeal.nD Cert.TableIdeal.τ).loc Cert.TableIdeal.main_arg2)
          ∧ r.2.mem ((c.tc : Thread Cert.TableIdeal.nD Cert.TableIdeal.τ).loc Cert.TableIdeal.main_arg3) = m ((c.tc : Thread Cert.TableIdeal.nD Cert.TableIdeal.τ).loc Cert.TableIdeal.main_arg3)
          ∧ r.2.mem ((c.tc : Thread Cert.TableIdeal.nD Cert.TableIdeal.τ).loc Cert.TableIdeal.main_arg4) = m ((c.tc : Thread Cert.TableIdeal.nD Cert.TableIdeal.τ).loc Cert.TableIdeal.main_arg4)
          ∧ r.2.mem ((c.tc : Thread Cert.TableIdeal.nD Cert.TableIdeal.τ).loc Cert.TableIdeal.main_arg5) = m ((c.tc : Thread Cert.TableIdeal.nD Cert.TableIdeal.τ).loc Cert.TableIdeal.main_arg5)
          ∧ r.2.mem ((c.tc : Thread Cert.TableIdeal.nD Cert.TableIdeal.τ).loc Cert.TableIdeal.main_arg6) = m ((c.tc : Thread Cert.TableIdeal.nD Cert.TableIdeal.τ).loc Cert.TableIdeal.main_arg6))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v15) = v0 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0)
          ∧ r.2.mem ((c.tc : Thread Cert.TableReferenceIdeal.nD Cert.TableReferenceIdeal.τ).loc Cert.TableReferenceIdeal.main_arg1) = m' ((c.tc : Thread Cert.TableReferenceIdeal.nD Cert.TableReferenceIdeal.τ).loc Cert.TableReferenceIdeal.main_arg1)
          ∧ r.2.mem ((c.tc : Thread Cert.TableReferenceIdeal.nD Cert.TableReferenceIdeal.τ).loc Cert.TableReferenceIdeal.main_arg2) = m' ((c.tc : Thread Cert.TableReferenceIdeal.nD Cert.TableReferenceIdeal.τ).loc Cert.TableReferenceIdeal.main_arg2)
          ∧ r.2.mem ((c.tc : Thread Cert.TableReferenceIdeal.nD Cert.TableReferenceIdeal.τ).loc Cert.TableReferenceIdeal.main_arg3) = m' ((c.tc : Thread Cert.TableReferenceIdeal.nD Cert.TableReferenceIdeal.τ).loc Cert.TableReferenceIdeal.main_arg3)
          ∧ r.2.mem ((c.tc : Thread Cert.TableReferenceIdeal.nD Cert.TableReferenceIdeal.τ).loc Cert.TableReferenceIdeal.main_arg4) = m' ((c.tc : Thread Cert.TableReferenceIdeal.nD Cert.TableReferenceIdeal.τ).loc Cert.TableReferenceIdeal.main_arg4)
          ∧ r.2.mem ((c.tc : Thread Cert.TableReferenceIdeal.nD Cert.TableReferenceIdeal.τ).loc Cert.TableReferenceIdeal.main_arg5) = m' ((c.tc : Thread Cert.TableReferenceIdeal.nD Cert.TableReferenceIdeal.τ).loc Cert.TableReferenceIdeal.main_arg5)
          ∧ r.2.mem ((c.tc : Thread Cert.TableReferenceIdeal.nD Cert.TableReferenceIdeal.τ).loc Cert.TableReferenceIdeal.main_arg6) = m' ((c.tc : Thread Cert.TableReferenceIdeal.nD Cert.TableReferenceIdeal.τ).loc Cert.TableReferenceIdeal.main_arg6))

def Claim : Prop :=
  ∃ (hKernel : Cert.Kernel.Facts) (hKernelIdeal : Cert.KernelIdeal.Facts) (hReferenceIdeal : Cert.ReferenceIdeal.Facts) (hTable : Cert.Table.Facts) (hTableIdeal : Cert.TableIdeal.Facts) (hTableReferenceIdeal : Cert.TableReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Table (hTable := hTable)
    ∧ quiescent_TableIdeal (hTableIdeal := hTableIdeal)
    ∧ quiescent_TableReferenceIdeal (hTableReferenceIdeal := hTableReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Table_TableIdeal
    ∧ algebraic_TableIdeal_TableReferenceIdeal (hTableIdeal := hTableIdeal) (hTableReferenceIdeal := hTableReferenceIdeal)
-- ==== Pre_in_range.lean ====
abbrev S16384x26 : Shape := ⟨2, ![16384, 26]⟩
abbrev S100000 : Shape := ⟨1, ![100000]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : IVec S100000 32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S100000 : Shape := ⟨1, ![100000]⟩
abbrev S425984 : Shape := ⟨1, ![425984]⟩
abbrev S13312 : Shape := ⟨1, ![13312]⟩
abbrev S_ : Shape := ⟨0, ![]⟩
abbrev S16 : Shape := ⟨1, ![16]⟩
abbrev S512 : Shape := ⟨1, ![512]⟩
abbrev S425984x2 : Shape := ⟨2, ![425984, 2]⟩
abbrev S26x16384x2 : Shape := ⟨3, ![26, 16384, 2]⟩
abbrev S16384x26x2 : Shape := ⟨3, ![16384, 26, 2]⟩

abbrev nBuf : Table → Nat
  | .hbm => 8
  | .local .scVector .vmem => 3
  | _ => 0

abbrev bufTy : (tb : Table) → Fin (nBuf tb) → BufTy
  | .hbm, ⟨0, _⟩ => ⟨S16384x26, .i32⟩
  | .hbm, ⟨1, _⟩ => ⟨S100000, .i32⟩
  | .hbm, ⟨2, _⟩ => ⟨S425984, .i32⟩
  | .hbm, ⟨3, _⟩ => ⟨S425984, .i32⟩
  | .hbm, ⟨4, _⟩ => ⟨S425984x2, .bf16⟩
  | .hbm, ⟨5, _⟩ => ⟨S425984x2, .f32⟩
  | .hbm, ⟨6, _⟩ => ⟨S26x16384x2, .f32⟩
  | .hbm, ⟨7, _⟩ => ⟨S16384x26x2, .f32⟩
  | .local .scVector .vmem, ⟨0, _⟩ => ⟨S100000, .i32⟩
  | .local .scVector .vmem, ⟨1, _⟩ => ⟨S13312, .i32⟩
  | .local .scVector .vmem, ⟨2, _⟩ => ⟨S13312, .i32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c13312_i32 : BitVec 32 := 13312#32
  let v2 : BitVec 32 := Scalar.muli v1 c13312_i32
  ![v2.toNat]
@[reducible] def k0_t1_loop : Scf.Loop 32 :=
  let c0_i32 : BitVec 32 := 0#32
  let c208_i32 : BitVec 32 := 208#32
  let v4 : BitVec 32 := Scalar.addi c0_i32 c208_i32
  let c1_i32 : BitVec 32 := 1#32
  ⟨c0_i32, v4, c1_i32⟩
def k0_off2 (k0_t1 : Fin k0_t1_loop.trips) : Fin 1 → Nat :=
  let c0_i32_107 : BitVec 32 := 0#32
  let c0_i32 : BitVec 32 := 0#32
  let c1_i32 : BitVec 32 := 1#32
  let arg10 : BitVec 32 := Scf.iv c0_i32 c1_i32 k0_t1
  let c64_i32 : BitVec 32 := 64#32
  let v265 : BitVec 32 := Scalar.muli arg10 c64_i32
  let v266 : BitVec 32 := Scalar.addi c0_i32_107 v265
  let c0_i32_108 : BitVec 32 := 0#32
  let v267 : BitVec 32 := Scalar.addi v266 c0_i32_108
  let v270 : Index := Scalar.indexCast v267
  ![v270.toNat]

def k0_chk1 (v271 : IVec S16 32) : Prop :=
  (∀ a x, ((![v271] : Fin 1 → IVec S16 32) a x).toNat < S100000.size a)
theorem k0_idx1_inb : ∀ (v271 : IVec S16 32) (k0_hw1 : k0_chk1 v271), ∀ a x, ((![v271] : Fin 1 → IVec S16 32) a x).toNat < S100000.size a := fun v271 k0_hw1 => k0_hw1

def k0_chk2 (v302 : IVec S16 32) : Prop :=
  (∀ a x, ((![v302] : Fin 1 → IVec S16 32) a x).toNat < S13312.size a)
theorem k0_idx2_inb : ∀ (v302 : IVec S16 32) (k0_hw2 : k0_chk2 v302), ∀ a x, ((![v302] : Fin 1 → IVec S16 32) a x).toNat < S13312.size a := fun v302 k0_hw2 => k0_hw2
def k0_off3 (k0_t1 : Fin k0_t1_loop.trips) : Fin 1 → Nat :=
  let c0_i32_107 : BitVec 32 := 0#32
  let c0_i32 : BitVec 32 := 0#32
  let c1_i32 : BitVec 32 := 1#32
  let arg10 : BitVec 32 := Scf.iv c0_i32 c1_i32 k0_t1
  let c64_i32 : BitVec 32 := 64#32
  let v265 : BitVec 32 := Scalar.muli arg10 c64_i32
  let v266 : BitVec 32 := Scalar.addi c0_i32_107 v265
  let c16_i32_117 : BitVec 32 := 16#32
  let v303 : BitVec 32 := Scalar.addi v266 c16_i32_117
  let v306 : Index := Scalar.indexCast v303
  ![v306.toNat]

def k0_chk3 (v307 : IVec S16 32) : Prop :=
  (∀ a x, ((![v307] : Fin 1 → IVec S16 32) a x).toNat < S100000.size a)
theorem k0_idx3_inb : ∀ (v307 : IVec S16 32) (k0_hw3 : k0_chk3 v307), ∀ a x, ((![v307] : Fin 1 → IVec S16 32) a x).toNat < S100000.size a := fun v307 k0_hw3 => k0_hw3

def k0_chk4 (v338 : IVec S16 32) : Prop :=
  (∀ a x, ((![v338] : Fin 1 → IVec S16 32) a x).toNat < S13312.size a)
theorem k0_idx4_inb : ∀ (v338 : IVec S16 32) (k0_hw4 : k0_chk4 v338), ∀ a x, ((![v338] : Fin 1 → IVec S16 32) a x).toNat < S13312.size a := fun v338 k0_hw4 => k0_hw4
def k0_off4 (k0_t1 : Fin k0_t1_loop.trips) : Fin 1 → Nat :=
  let c0_i32_107 : BitVec 32 := 0#32
  let c0_i32 : BitVec 32 := 0#32
  let c1_i32 : BitVec 32 := 1#32
  let arg10 : BitVec 32 := Scf.iv c0_i32 c1_i32 k0_t1
  let c64_i32 : BitVec 32 := 64#32
  let v265 : BitVec 32 := Scalar.muli arg10 c64_i32
  let v266 : BitVec 32 := Scalar.addi c0_i32_107 v265
  let c32_i32 : BitVec 32 := 32#32
  let v339 : BitVec 32 := Scalar.addi v266 c32_i32
  let v342 : Index := Scalar.indexCast v339
  ![v342.toNat]

def k0_chk5 (v343 : IVec S16 32) : Prop :=
  (∀ a x, ((![v343] : Fin 1 → IVec S16 32) a x).toNat < S100000.size a)
theorem k0_idx5_inb : ∀ (v343 : IVec S16 32) (k0_hw5 : k0_chk5 v343), ∀ a x, ((![v343] : Fin 1 → IVec S16 32) a x).toNat < S100000.size a := fun v343 k0_hw5 => k0_hw5

def k0_chk6 (v374 : IVec S16 32) : Prop :=
  (∀ a x, ((![v374] : Fin 1 → IVec S16 32) a x).toNat < S13312.size a)
theorem k0_idx6_inb : ∀ (v374 : IVec S16 32) (k0_hw6 : k0_chk6 v374), ∀ a x, ((![v374] : Fin 1 → IVec S16 32) a x).toNat < S13312.size a := fun v374 k0_hw6 => k0_hw6
def k0_off5 (k0_t1 : Fin k0_t1_loop.trips) : Fin 1 → Nat :=
  let c0_i32_107 : BitVec 32 := 0#32
  let c0_i32 : BitVec 32 := 0#32
  let c1_i32 : BitVec 32 := 1#32
  let arg10 : BitVec 32 := Scf.iv c0_i32 c1_i32 k0_t1
  let c64_i32 : BitVec 32 := 64#32
  let v265 : BitVec 32 := Scalar.muli arg10 c64_i32
  let v266 : BitVec 32 := Scalar.addi c0_i32_107 v265
  let c48_i32 : BitVec 32 := 48#32
  let v375 : BitVec 32 := Scalar.addi v266 c48_i32
  let v378 : Index := Scalar.indexCast v375
  ![v378.toNat]

def k0_chk7 (v379 : IVec S16 32) : Prop :=
  (∀ a x, ((![v379] : Fin 1 → IVec S16 32) a x).toNat < S100000.size a)
theorem k0_idx7_inb : ∀ (v379 : IVec S16 32) (k0_hw7 : k0_chk7 v379), ∀ a x, ((![v379] : Fin 1 → IVec S16 32) a x).toNat < S100000.size a := fun v379 k0_hw7 => k0_hw7

def k0_chk8 (v410 : IVec S16 32) : Prop :=
  (∀ a x, ((![v410] : Fin 1 → IVec S16 32) a x).toNat < S13312.size a)
theorem k0_idx8_inb : ∀ (v410 : IVec S16 32) (k0_hw8 : k0_chk8 v410), ∀ a x, ((![v410] : Fin 1 → IVec S16 32) a x).toNat < S13312.size a := fun v410 k0_hw8 => k0_hw8
def k0_off6 (i : grid0.Coords) (c0_i32_1 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v5 : BitVec 32 := Scalar.muli v1 c512_i32
  let v6 : BitVec 32 := Scalar.addi c0_i32_1 v5
  ![v6.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S100000 : Shape := ⟨1, ![100000]⟩
abbrev S100000x2 : Shape := ⟨2, ![100000, 2]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x2 : Shape := ⟨3, ![16384, 26, 2]⟩

abbrev nBuf : Space → Nat
  | .hbm => 27
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S100000, .i32⟩
  | .hbm, ⟨2, _⟩ => ⟨S100000x2, .bf16⟩
  | .hbm, ⟨3, _⟩ => ⟨S100000x2, .f32⟩
  | .hbm, ⟨4, _⟩ => ⟨S_, .i32⟩
  | .hbm, ⟨5, _⟩ => ⟨S16384x26, .i32⟩
  | .hbm, ⟨6, _⟩ => ⟨S16384x26, .i1⟩
  | .hbm, ⟨7, _⟩ => ⟨S_, .i32⟩
  | .hbm, ⟨8, _⟩ => ⟨S16384x26, .i32⟩
  | .hbm, ⟨9, _⟩ => ⟨S16384x26, .i32⟩
  | .hbm, ⟨10, _⟩ => ⟨S16384x26, .i32⟩
  | .hbm, ⟨11, _⟩ => ⟨S16384x26x1, .i32⟩
  | .hbm, ⟨12, _⟩ => ⟨S1, .i32⟩
  | .hbm, ⟨13, _⟩ => ⟨S_, .i32⟩
  | .hbm, ⟨14, _⟩ => ⟨S16384x26x1, .i32⟩
  | .hbm, ⟨15, _⟩ => ⟨S16384x26x1, .i1⟩
  | .hbm, ⟨16, _⟩ => ⟨S1x1x1, .i32⟩
  | .hbm, ⟨17, _⟩ => ⟨S16384x26x1, .i32⟩
  | .hbm, ⟨18, _⟩ => ⟨S16384x26x1, .i1⟩
  | .hbm, ⟨19, _⟩ => ⟨S16384x26x1, .i1⟩
  | .hbm, ⟨20, _⟩ => ⟨S_, .i1⟩
  | .hbm, ⟨21, _⟩ => ⟨S16384x26, .i1⟩
  | .hbm, ⟨22, _⟩ => ⟨S16384x26x2, .f32⟩
  | .hbm, ⟨23, _⟩ => ⟨S16384x26x2, .i1⟩
  | .hbm, ⟨24, _⟩ => ⟨S_, .f32⟩
  | .hbm, ⟨25, _⟩ => ⟨S16384x26x2, .f32⟩
  | .hbm, ⟨26, _⟩ => ⟨S16384x26x2, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Table.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x64 : Shape := ⟨2, ![1, 64]⟩
abbrev S2x1 : Shape := ⟨2, ![2, 1]⟩
abbrev S2x100000 : Shape := ⟨2, ![2, 100000]⟩
abbrev S20480x128 : Shape := ⟨2, ![20480, 128]⟩
abbrev S2x20480 : Shape := ⟨2, ![2, 20480]⟩
abbrev S20480x64 : Shape := ⟨2, ![20480, 64]⟩

abbrev nBuf : Space → Nat
  | .hbm => 11
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S1x64, .f32⟩
  | .hbm, ⟨8, _⟩ => ⟨S1x64, .f32⟩
  | .hbm, ⟨9, _⟩ => ⟨S2x1, .f32⟩
  | .hbm, ⟨10, _⟩ => ⟨S2x100000, .bf16⟩
  | .local _ .vmem, ⟨0, _⟩ => ⟨S20480x128, .f32⟩
  | .local _ .vmem, ⟨1, _⟩ => ⟨S20480x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x2, .f32⟩
  | .local _ .vmem, ⟨7, _⟩ => ⟨S2x1, .f32⟩
  | .local _ .vmem, ⟨8, _⟩ => ⟨S2x20480, .bf16⟩
  | .local _ .vmem, ⟨9, _⟩ => ⟨S2x20480, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S20480x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x20480 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== TableReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S100000x64 : Shape := ⟨2, ![100000, 64]⟩
abbrev S1x64 : Shape := ⟨2, ![1, 64]⟩
abbrev S100000x2 : Shape := ⟨2, ![100000, 2]⟩
abbrev S1x2 : Shape := ⟨2, ![1, 2]⟩
abbrev S2x100000 : Shape := ⟨2, ![2, 100000]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S100000x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S100000x64, .f32⟩
  | .hbm, ⟨17, _⟩ => ⟨S100000x2, .f32⟩
  | .hbm, ⟨18, _⟩ => ⟨S1x2, .f32⟩
  | .hbm, ⟨19, _⟩ => ⟨S100000x2, .f32⟩
  | .hbm, ⟨20, _⟩ => ⟨S100000x2, .f32⟩
  | .hbm, ⟨21, _⟩ => ⟨S100000x2, .bf16⟩
  | .hbm, ⟨22, _⟩ => ⟨S2x100000, .bf16⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.DenseBody.lean ====
/-
  The body of the TensorCore call (`TableIdeal`, whose text is also `Table`'s), over any float values: what it computes
  from its input buffers, and its run on any of its windows' buffers.
-/
module

public import proofs.«01_k».proof.Proof.Gen.TableIdeal.Frame
public import Idealize.ShloMosaic.Lib.Pipeline.ArrRel
public import Idealize.ShloMosaic.Lib.Pipeline.DatRel
public import Idealize.ShloMosaic.Lib.Tactic

@[expose] public section

noncomputable section

namespace Cert.Proof.Dense

open Cert.TableIdeal Cert.TableIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-! ## What the body computes -/

/-- The first hidden layer of a block of 20480 embedding rows. -/
def hidden1 (x : FVec F S20480x128 .f32) (w1 : FVec F S128x64 .f32) (b1 : FVec F S1x64 .f32) : FVec F S20480x64 .f32 :=
  tanh (addf (matmul dot_S20480x128_S128x64_S20480x64_1_0_0_1_n_n none x w1 (constant S20480x64 .f32 0x00000000#32))
    (broadcastTo S20480x64 (shapeCast S1x64 b1 shapeCasts_S1x64_S1x64) broadcasts_S1x64_S20480x64))

/-- The second hidden layer, from the first. -/
def hidden2 (h : FVec F S20480x64 .f32) (w2 : FVec F S64x64 .f32) (b2 : FVec F S1x64 .f32) : FVec F S20480x64 .f32 :=
  tanh (addf (matmul dot_S20480x64_S64x64_S20480x64_1_0_0_1_n_n none h w2 (constant S20480x64 .f32 0x00000000#32))
    (broadcastTo S20480x64 (shapeCast S1x64 b2 shapeCasts_S1x64_S1x64) broadcasts_S1x64_S20480x64))

/-- The two scores of every row, from the second layer: a row of scores per class, rounded to bf16. -/
def scores (h : FVec F S20480x64 .f32) (w3 : FVec F S64x2 .f32) (b3 : FVec F S2x1 .f32) : FVec F S2x20480 .bf16 :=
  truncf .bf16 (addf (matmul dot_S64x2_S20480x64_S2x20480_0_1_1_0_n_n none w3 h (constant S2x20480 .f32 0x00000000#32))
    (broadcastTo S2x20480 (shapeCast S2x1 b3 shapeCasts_S2x1_S2x1) broadcasts_S2x1_S2x20480)) bitsLt_bf16_f32

/-- What the body stores, from what its seven input buffers hold. -/
def block (x : FVec F S20480x128 .f32) (w1 : FVec F S128x64 .f32) (b1 : FVec F S1x64 .f32) (w2 : FVec F S64x64 .f32)
    (b2 : FVec F S1x64 .f32) (w3 : FVec F S64x2 .f32) (b3 : FVec F S2x1 .f32) : FVec F S2x20480 .bf16 :=
  scores (hidden2 (hidden1 x w1 b1) w2 b2) w3 b3

/-! ## The body's run -/

set_option maxHeartbeats 4000000 in
/-- The body on any of its windows' buffers: seven whole loads, the layers, a load that nothing reads, a whole store. -/
theorem sound_body (c : Dev nD) (E : Set ℕ) (i : grid0.Coords) (s0 : Fin 2) (s1 s2 s3 s4 s5 s6 : Fin 1) (s7 : Fin 2)
    (X0 : S20480x128.Idx → Elt F .f32) (X1 : S128x64.Idx → Elt F .f32) (X2 : S1x64.Idx → Elt F .f32)
    (X3 : S64x64.Idx → Elt F .f32) (X4 : S1x64.Idx → Elt F .f32) (X5 : S64x2.Idx → Elt F .f32)
    (X6 : S2x1.Idx → Elt F .f32) (X7 : S2x20480.Idx → Elt F .bf16) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6 ∗ owns (c : Thread nD τ) (stage0_7 s7) fullShare X7)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6
            ∗ owns (c : Thread nD τ) (stage0_7 s7) fullShare (block X0 X1 X2 X3 X4 X5 X6)) -∗ K ⟨⟩))
      ⊢ wp frame (wpE (defs₀ (F := F)) Variants.none c none) E
          (cc0__table_mlp_body i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)
            (stage0_7 s7) (hstage0_7 s7)) K := by
  have hz : (![0, 0] : Fin 2 → Nat) = fun _ => 0 := funext fun a => by fin_cases a <;> rfl
  have e1 : s1 = 0 := Subsingleton.elim _ _
  have e2 : s2 = 0 := Subsingleton.elim _ _
  have e3 : s3 = 0 := Subsingleton.elim _ _
  have e4 : s4 = 0 := Subsingleton.elim _ _
  have e5 : s5 = 0 := Subsingleton.elim _ _
  have e6 : s6 = 0 := Subsingleton.elim _ _
  subst e1 e2 e3 e4 e5 e6
  have hr1 : (Memref.whole cc0_stg1_0 : Memref sig .tc _ _ _).view.readAt (Elt F) (Rect.unit (s := S128x64) ![0, 0] S128x64.size
        inb_S128x64_S128x64_0_0).toLoadRect = id := funext (Memref.readAt_unit_zero (Elt F) cc0_stg1_0 hz _)
  have hr2 : (Memref.whole cc0_stg2_0 : Memref sig .tc _ _ _).view.readAt (Elt F) (Rect.unit (s := S1x64) ![0, 0] S1x64.size
        inb_S1x64_S1x64_0_0).toLoadRect = id := funext (Memref.readAt_unit_zero (Elt F) cc0_stg2_0 hz _)
  have hr3 : (Memref.whole cc0_stg3_0 : Memref sig .tc _ _ _).view.readAt (Elt F) (Rect.unit (s := S64x64) ![0, 0] S64x64.size
        inb_S64x64_S64x64_0_0).toLoadRect = id := funext (Memref.readAt_unit_zero (Elt F) cc0_stg3_0 hz _)
  have hr4 : (Memref.whole cc0_stg4_0 : Memref sig .tc _ _ _).view.readAt (Elt F) (Rect.unit (s := S1x64) ![0, 0] S1x64.size
        inb_S1x64_S1x64_0_0).toLoadRect = id := funext (Memref.readAt_unit_zero (Elt F) cc0_stg4_0 hz _)
  have hr5 : (Memref.whole cc0_stg5_0 : Memref sig .tc _ _ _).view.readAt (Elt F) (Rect.unit (s := S64x2) ![0, 0] S64x2.size
        inb_S64x2_S64x2_0_0).toLoadRect = id := funext (Memref.readAt_unit_zero (Elt F) cc0_stg5_0 hz _)
  have hr6 : (Memref.whole cc0_stg6_0 : Memref sig .tc _ _ _).view.readAt (Elt F) (Rect.unit (s := S2x1) ![0, 0] S2x1.size
        inb_S2x1_S2x1_0_0).toLoadRect = id := funext (Memref.readAt_unit_zero (Elt F) cc0_stg6_0 hz _)
  have ha0 : (Memref.whole cc0_stg0_0 : Memref sig .tc _ _ _).view.readAt (Elt F) (Rect.unit (s := S20480x128) ![0, 0] S20480x128.size
        inb_S20480x128_S20480x128_0_0).toLoadRect = id := funext (Memref.readAt_unit_zero (Elt F) cc0_stg0_0 hz _)
  have hb0 : (Memref.whole cc0_stg0_1 : Memref sig .tc _ _ _).view.readAt (Elt F) (Rect.unit (s := S20480x128) ![0, 0] S20480x128.size
        inb_S20480x128_S20480x128_0_0).toLoadRect = id := funext (Memref.readAt_unit_zero (Elt F) cc0_stg0_1 hz _)
  have ha7 : ∀ f w, (((Memref.whole cc0_stg7_0).access (Rect.unit (s := S2x20480) ![0, 0] S2x20480.size inb_S2x20480_S2x20480_0_0)) :
        View sig .tc _ _ _).write (Elt F) f w Finset.univ = w := Memref.write_access_unit_zero_univ (Elt F) cc0_stg7_0 hz _
  have hb7 : ∀ f w, (((Memref.whole cc0_stg7_1).access (Rect.unit (s := S2x20480) ![0, 0] S2x20480.size inb_S2x20480_S2x20480_0_0)) :
        View sig .tc _ _ _).write (Elt F) f w Finset.univ = w := Memref.write_access_unit_zero_univ (Elt F) cc0_stg7_1 hz _
  fin_cases s0 <;> fin_cases s7
  · simp only [owns_whole_eq]; unfold cc0__table_mlp_body
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩⟩, Hk⟩
    sl_steps
    iapply Hk
    rw [ha0, hr1, hr2, hr3, hr4, hr5, hr6, ha7, hf0, hf1, hf2, hf3, hf4, hf5, hf6]
    sl_close
  · simp only [owns_whole_eq]; unfold cc0__table_mlp_body
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩⟩, Hk⟩
    sl_steps
    iapply Hk
    rw [ha0, hr1, hr2, hr3, hr4, hr5, hr6, hb7, hf0, hf1, hf2, hf3, hf4, hf5, hf6]
    sl_close
  · simp only [owns_whole_eq]; unfold cc0__table_mlp_body
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩⟩, Hk⟩
    sl_steps
    iapply Hk
    rw [hb0, hr1, hr2, hr3, hr4, hr5, hr6, ha7, hf0, hf1, hf2, hf3, hf4, hf5, hf6]
    sl_close
  · simp only [owns_whole_eq]; unfold cc0__table_mlp_body
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩⟩, Hk⟩
    sl_steps
    iapply Hk
    rw [hb0, hr1, hr2, hr3, hr4, hr5, hr6, hb7, hf0, hf1, hf2, hf3, hf4, hf5, hf6]
    sl_close

end Cert.Proof.Dense

end
-- ==== Proof.Dense.lean ====
/-
  The run of the TensorCore call (`TableIdeal`, whose text is also `Table`'s), over any float values: the proof data,
  the body obligation, @main's run, and the frames. The last block of the embedding table overhangs it, so at the last
  point the body finds 2400 rows that nothing names after the 18080 it was given; the result's buffer is therefore held
  to a relation (`Rl`): the dense layers of SOME block that agrees with the table inside it. Proof/DenseValue.lean shows
  that at the reals the part that is written back does not depend on those rows.
-/
module

public import proofs.«01_k».proof.Proof.DenseBody
public import Idealize.ShloMosaic.Lib.Pipeline.ArrRel
public import Idealize.ShloMosaic.Lib.Pipeline.DatRel
public import Idealize.ShloMosaic.Lib.Tactic

@[expose] public section

noncomputable section

namespace Cert.Proof.Dense

open Cert.TableIdeal Cert.TableIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-! ## The proof data -/

variable (m : (ℓ : Loc nD τ sig) → Buf (Elt F) ℓ) (ρ : Dev nD → PrngReg)

/-- The embedding window's buffer at point `t` once its block has been fetched over `d`: the block where it lies
    inside the table, `d` on the rows past the table's end. -/
def fetched0 (c : Dev nD) (t : Fin cfg0.N) (d : S20480x128.Idx → Elt F .f32) : S20480x128.Idx → Elt F .f32 :=
  win0_0.fill (grid0.coords t) d (iblk m c 0 t)

/-- The result of the layers at point `t`, for an embedding buffer that held `d` before the fetch. -/
def left7 (c : Dev nD) (t : Fin cfg0.N) (d : S20480x128.Idx → Elt F .f32) : S2x20480.Idx → Elt F .bf16 :=
  block (fetched0 m c t d) (iblk m c 1 t) (iblk m c 2 t) (iblk m c 3 t) (iblk m c 4 t) (iblk m c 5 t) (iblk m c 6 t)

/-- The proof data of the pipeline on device `c`: the arrays as the region finds them; the body leaves the inputs'
    buffers as they were. What it says of the result's window is replaced by `Rl` below. -/
def dats (c : Dev nD) : Dat τ (Elt F) Unit ℕ (UR sig nD τ) ℕ cfg0 c where
  A w := V m c (Pipeline.arrRef spec0 w)
  after w t := match w with
    | ⟨0, _⟩ => fetched0 m c t (fun _ => Scalar.ofBits .f32 0#32)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t (fun _ => Scalar.ofBits .f32 0#32)
  Φ _ := Pipeline.ΦA spec0 c
  q _ := fullShare
  owed _ := 0

/-- The result's window alone is held to a predicate: -/
def fgt : Fin cfg0.W → Bool := fun w => match w with
  | ⟨7, _⟩ => true
  | _ => false

/-- the body leaves there the layers' result for SOME contents of the rows past the table's end. -/
def Rl (c : Dev nD) : (w : Fin cfg0.W) → Fin cfg0.N → ((cfg0.win w).block.Idx → Elt F (cfg0.win w).elt) → Prop := fun w => match w with
  | ⟨7, _⟩ => fun t X => ∃ d, X = left7 m c t d
  | _ => fun _ _ => True

/-- The relational proof data of the run. -/
abbrev rdats (c : Dev nD) : RDat τ (Elt F) Unit ℕ (UR sig nD τ) ℕ cfg0 c := (dats m c).toRRel fgt (Rl m c)

/-- The embedding window fetches at every point. -/
theorem before_0 (c : Dev nD) (t : Fin cfg0.N) (d) : (dats m c).before (0 : Fin 8) t d = fetched0 m c t d := by
  unfold Dat.before; rw [if_pos (fetch0_0 t)]; rfl

set_option maxRecDepth 8192 in
/-- The body obligation of the pipeline. -/
theorem body_obligation (c : Dev nD) : BodyObligationRel (dats m c) (defs₀ (F := F)) Variants.none () Set.univ fgt (Rl m c) := fun t => by
  rw [bigSep_W0, bigSep_W0]
  simp only [show fgt 0 = false from rfl, show fgt 1 = false from rfl, show fgt 2 = false from rfl, show fgt 3 = false from rfl,
    show fgt 4 = false from rfl, show fgt 5 = false from rfl, show fgt 6 = false from rfl, show fgt 7 = true from rfl]
  rw [show (dats m c).Φ t.succ = (dats m c).Φ t.castSucc from rfl,
    show (dats m c).owesAt () t.succ = (dats m c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %h7, H7⟩⟩
  rw [before_0 m c t d0, before0_1_of m (dats m c) rfl (fun _ => rfl) t d1, before0_2_of m (dats m c) rfl (fun _ => rfl) t d2,
    before0_3_of m (dats m c) rfl (fun _ => rfl) t d3, before0_4_of m (dats m c) rfl (fun _ => rfl) t d4,
    before0_5_of m (dats m c) rfl (fun _ => rfl) t d5, before0_6_of m (dats m c) rfl (fun _ => rfl) t d6]
  iapply (sound_body (F := F) c Set.univ (grid0.coords t) (cfg0.slots t 0) (cfg0.slots t 1) (cfg0.slots t 2) (cfg0.slots t 3)
    (cfg0.slots t 4) (cfg0.slots t 5) (cfg0.slots t 6) (cfg0.slots t 7) (fetched0 m c t d0) (iblk m c 1 t) (iblk m c 2 t)
    (iblk m c 3 t) (iblk m c 4 t) (iblk m c 5 t) (iblk m c 6 t) d7 _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => Scalar.ofBits .f32 0#32) (iblk m c 0 t))))
    rw [win0_0.cut_fill]; exact BI.Entails.refl _
  isplitl [H1]; · iexact H1
  isplitl [H2]; · iexact H2
  isplitl [H3]; · iexact H3
  isplitl [H4]; · iexact H4
  isplitl [H5]; · iexact H5
  isplitl [H6]; · iexact H6
  iexists left7 m c t d0
  isplitr
  · ipureintro; exact ⟨d0, rfl⟩
  iexact H7

/-- At the compiled mesh, for any float values, from any memory with zero counters: every fair execution of @main
    terminates; at its end each array holds what the proof data allow, the buffers that are no array are as they
    were before the region, and every semaphore counter is zero. -/
theorem run_main : θ_run defs (onTc (τ := τ) (main (F := F))) (s₀ m ρ)
    (fun r => RDat.FramePost cfg0 (rdats m) (V m) r ∧ r.2.sem = fun _ => 0) :=
  Pipeline.RDat.θ_run_frame cfgs 0 launch0 defs₀ Variants.none (fun c => rdats m c) m ρ main
    (hbody := fun c => (body_obligation m c).toRRel)
    (hshare := fun c => (dats m c).share_full fun _ => rfl) (howed := fun _ _ => rfl)
    (V := V m) (hmain := hmain m Variants.none) (hA := fun _ _ => rfl) (hΦ := fun _ _ => rfl)
    (Q' := fun r => RDat.FramePost cfg0 (rdats m) (V m) r ∧ r.2.sem = fun _ => 0) (hQ' := fun _ h => h)

/-- The arguments at the end of a run, each as launched: four are arrays the pipeline only reads, three are read by the
    reshapes before the region and staged by no window. -/
theorem args_of {r : PUnit × MemSt nD τ sig (Elt F)} (h : RDat.FramePost cfg0 (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c), (h.arr_in c 1 rfl).trans (V_main_arg1 m c),
    ((h c).2 main_arg2 (Pipeline.mem_restRefs_of main_arg2 (by decide) (by decide))).trans (V_main_arg2 m c),
    (h.arr_in c 3 rfl).trans (V_main_arg3 m c),
    ((h c).2 main_arg4 (Pipeline.mem_restRefs_of main_arg4 (by decide) (by decide))).trans (V_main_arg4 m c),
    (h.arr_in c 5 rfl).trans (V_main_arg5 m c),
    ((h c).2 main_arg6 (Pipeline.mem_restRefs_of main_arg6 (by decide) (by decide))).trans (V_main_arg6 m c)⟩

end Cert.Proof.Dense

end
-- ==== Proof.DenseLayers.lean ====
/-
  The dense layers at the reals, one row at a time. `rowScores` is the network on one embedding row; a block of the
  TensorCore call (Proof/DenseBody.lean's `block`) read at (class, row) is that of the block's row, and the reference's
  composed term read at (class, row) is that of the table's row. So neither depends on any other row.
-/
module

public import proofs.«01_k».proof.Proof.DenseBody
public import proofs.«01_k».proof.Proof.Gen.TableReferenceIdeal
public import Idealize.ShloMosaic.Lib.KernelVsHost
public import Idealize.ShloMosaic.Lib.MatmulPlain
public import Idealize.ShloMosaic.Lib.Pipeline.Value
public import Idealize.ShloMosaic.Lib.StackMember
public import Idealize.ShloMosaic.Lib.ValueLayout

@[expose] public section

noncomputable section

namespace Cert.Proof.Dense

open Idealize.ShloMosaic Idealize.ShloMosaic.ValueIdx Idealize.ShloMosaic.StackMember
open scoped BigOperators

/-! ## The network on one row -/

/-- A hidden layer with 64 units: the inner product with each unit's weights, its bias added, the hyperbolic tangent. -/
def rowHidden {n : Nat} (x : Fin n → Ideal .f32) (w : FVec Ideal ⟨2, ![n, 64]⟩ .f32) (b : Fin 64 → Ideal .f32) (j : Fin 64) : Ideal .f32 :=
  FloatOps.tanh (FloatOps.addf (∑ k : Fin n, x k * w (ix2 k j) : EReal) (b j))

/-- The two scores of a row: two hidden layers, then the output layer. The rounding to bf16 is the identity at the reals. -/
def rowScores (x : Fin 128 → Ideal .f32) (w1 : FVec Ideal ⟨2, ![128, 64]⟩ .f32) (b1 : Fin 64 → Ideal .f32)
    (w2 : FVec Ideal ⟨2, ![64, 64]⟩ .f32) (b2 : Fin 64 → Ideal .f32) (w3 : FVec Ideal ⟨2, ![64, 2]⟩ .f32) (b3 : Fin 2 → Ideal .f32)
    (o : Fin 2) : Ideal .bf16 :=
  FloatOps.truncf .bf16 Cert.TableIdeal.Gen.bitsLt_bf16_f32
    (FloatOps.addf (∑ k : Fin 64, rowHidden (rowHidden x w1 b1) w2 b2 k * w3 (ix2 k o) : EReal) (b3 o))

/-! ## The kernel's block -/

section Kernel
open Cert.TableIdeal Cert.TableIdeal.Gen

/-- A row vector cast to its own shape and laid along every row reads that vector. -/
theorem bias_apply (b : FVec Ideal S1x64 .f32) (r : Fin 20480) (j : Fin 64) :
    broadcastTo S20480x64 (shapeCast S1x64 b shapeCasts_S1x64_S1x64) broadcasts_S1x64_S20480x64 (ix2 r j) = b (ix2 (0 : Fin 1) j) := by
  refine (broadcastTo_1b_ab_apply _ _ r j).trans ?_
  exact shapeCast_apply _ _ _ _ rfl

theorem hidden1_apply (x : FVec Ideal S20480x128 .f32) (w : FVec Ideal S128x64 .f32) (b : FVec Ideal S1x64 .f32) (r : Fin 20480) (j : Fin 64) :
    hidden1 x w b (ix2 r j) = rowHidden (fun k => x (ix2 r k)) w (fun j => b (ix2 (0 : Fin 1) j)) j := by
  have hm : matmul dot_S20480x128_S128x64_S20480x64_1_0_0_1_n_n none x w (constant S20480x64 .f32 0x00000000#32) (ix2 r j)
      = (∑ k : Fin 128, x (ix2 r k) * w (ix2 k j) : EReal) := by
    rw [matmul_zero_eq_dotGeneral]
    exact dotGeneral_plain_apply none x w r j
  unfold hidden1 rowHidden
  show FloatOps.tanh (FloatOps.addf (matmul _ none x w _ (ix2 r j)) (broadcastTo _ _ _ (ix2 r j))) = _
  rw [hm, bias_apply]

theorem hidden2_apply (x : FVec Ideal S20480x64 .f32) (w : FVec Ideal S64x64 .f32) (b : FVec Ideal S1x64 .f32) (r : Fin 20480) (j : Fin 64) :
    hidden2 x w b (ix2 r j) = rowHidden (fun k => x (ix2 r k)) w (fun j => b (ix2 (0 : Fin 1) j)) j := by
  have hm : matmul dot_S20480x64_S64x64_S20480x64_1_0_0_1_n_n none x w (constant S20480x64 .f32 0x00000000#32) (ix2 r j)
      = (∑ k : Fin 64, x (ix2 r k) * w (ix2 k j) : EReal) := by
    rw [matmul_zero_eq_dotGeneral]
    exact dotGeneral_plain_apply none x w r j
  unfold hidden2 rowHidden
  show FloatOps.tanh (FloatOps.addf (matmul _ none x w _ (ix2 r j)) (broadcastTo _ _ _ (ix2 r j))) = _
  rw [hm, bias_apply]

/-- The output layer's product takes both operands transposed: at (class, row) the inner product of the class's weights
    with the row. -/
theorem out_apply (h : FVec Ideal S20480x64 .f32) (w : FVec Ideal S64x2 .f32) (o : Fin 2) (r : Fin 20480) :
    matmul dot_S64x2_S20480x64_S2x20480_0_1_1_0_n_n none w h (constant S2x20480 .f32 0x00000000#32) (ix2 o r)
      = (∑ k : Fin 64, h (ix2 r k) * w (ix2 k o) : EReal) := by
  show FloatOps.matmul dot_S64x2_S20480x64_S2x20480_0_1_1_0_n_n none w h (constant S2x20480 .f32 0x00000000#32) (ix2 o r) = _
  rw [Ideal.matmul_constant_zero_apply,
    ← Equiv.sum_comp (contrEquiv1 dot_S64x2_S20480x64_S2x20480_0_1_1_0_n_n 64 rfl rfl).symm]
  refine Finset.sum_congr rfl fun k _ => ?_
  have hk := contrEquiv1_symm_val dot_S64x2_S20480x64_S2x20480_0_1_1_0_n_n 64 rfl rfl k
  have el : dot_S64x2_S20480x64_S2x20480_0_1_1_0_n_n.lhsIdx (ix2 o r) ((contrEquiv1 _ 64 rfl rfl).symm k) = ix2 k o := by
    funext a; apply Fin.ext
    match a with
    | ⟨0, _⟩ => exact hk
    | ⟨1, _⟩ => rfl
  have er : dot_S64x2_S20480x64_S2x20480_0_1_1_0_n_n.rhsIdx (ix2 o r) ((contrEquiv1 _ 64 rfl rfl).symm k) = ix2 r k := by
    funext a; apply Fin.ext
    match a with
    | ⟨0, _⟩ => rfl
    | ⟨1, _⟩ => exact hk
  rw [el, er]
  exact mul_comm _ _

theorem scores_apply (h : FVec Ideal S20480x64 .f32) (w : FVec Ideal S64x2 .f32) (b : FVec Ideal S2x1 .f32) (o : Fin 2) (r : Fin 20480) :
    scores h w b (ix2 o r) = FloatOps.truncf .bf16 bitsLt_bf16_f32
      (FloatOps.addf (∑ k : Fin 64, h (ix2 r k) * w (ix2 k o) : EReal) (b (ix2 o (0 : Fin 1)))) := by
  have hb : broadcastTo S2x20480 (shapeCast S2x1 b shapeCasts_S2x1_S2x1) broadcasts_S2x1_S2x20480 (ix2 o r) = b (ix2 o (0 : Fin 1)) := by
    refine (broadcastTo_apply _ _ (ix2 o r) (ix2 o (0 : Fin 1)) fun a => ?_).trans (shapeCast_apply _ _ _ _ rfl)
    match a with
    | ⟨0, _⟩ => rfl
    | ⟨1, _⟩ => rfl
  unfold scores
  show FloatOps.truncf .bf16 _ (FloatOps.addf (matmul _ none w h _ (ix2 o r)) (broadcastTo _ _ _ (ix2 o r))) = _
  rw [out_apply, hb]

/-- A block of the call at (class, row): the network on that row. -/
theorem block_apply (x : FVec Ideal S20480x128 .f32) (w1 : FVec Ideal S128x64 .f32) (b1 : FVec Ideal S1x64 .f32) (w2 : FVec Ideal S64x64 .f32)
    (b2 : FVec Ideal S1x64 .f32) (w3 : FVec Ideal S64x2 .f32) (b3 : FVec Ideal S2x1 .f32) (o : Fin 2) (r : Fin 20480) :
    block x w1 b1 w2 b2 w3 b3 (ix2 o r)
      = rowScores (fun k => x (ix2 r k)) w1 (fun j => b1 (ix2 (0 : Fin 1) j)) w2 (fun j => b2 (ix2 (0 : Fin 1) j)) w3
          (fun j => b3 (ix2 j (0 : Fin 1))) o := by
  unfold block rowScores
  rw [scores_apply]
  simp only [hidden2_apply, hidden1_apply]

end Kernel

/-! ## The reference -/

section Reference
open Cert.TableReferenceIdeal Cert.TableReferenceIdeal.Gen

/-- A bias vector laid along every row reads the vector. -/
theorem refBias_apply (b : FVec Ideal S64 .f32) (v : Fin 100000) (j : Fin 64) :
    broadcastInDim S100000x64 ![0, 1] bcast_S1x64_S100000x64_0_1 (broadcastInDim S1x64 ![1] bcast_S64_S1x64_1 b) (ix2 v j) = b (ix1 j) := by
  refine (broadcastInDim_apply _ _ _ (ix2 v j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

/-- A hidden layer of the reference on the whole table. -/
def refHidden1 (x : FVec Ideal S100000x128 .f32) (w : FVec Ideal S128x64 .f32) (b : FVec Ideal S64 .f32) : FVec Ideal S100000x64 .f32 :=
  Host.tanh (addf (Host.dotGeneral dot_S100000x128_S128x64_S100000x64_1_0_0_1_n_n none x w)
    (broadcastInDim S100000x64 ![0, 1] bcast_S1x64_S100000x64_0_1 (broadcastInDim S1x64 ![1] bcast_S64_S1x64_1 b)))

def refHidden2 (x : FVec Ideal S100000x64 .f32) (w : FVec Ideal S64x64 .f32) (b : FVec Ideal S64 .f32) : FVec Ideal S100000x64 .f32 :=
  Host.tanh (addf (Host.dotGeneral dot_S100000x64_S64x64_S100000x64_1_0_0_1_n_n none x w)
    (broadcastInDim S100000x64 ![0, 1] bcast_S1x64_S100000x64_0_1 (broadcastInDim S1x64 ![1] bcast_S64_S1x64_1 b)))

/-- The reference's result: the output layer, rounded, the classes along the rows. -/
def refScores (x : FVec Ideal S100000x64 .f32) (w : FVec Ideal S64x2 .f32) (b : FVec Ideal S2 .f32) : FVec Ideal S2x100000 .bf16 :=
  transpose S2x100000 [1, 0] (truncf .bf16 (addf (Host.dotGeneral dot_S100000x64_S64x2_S100000x2_1_0_0_1_n_n none x w)
    (broadcastInDim S100000x2 ![0, 1] bcast_S1x2_S100000x2_0_1 (broadcastInDim S1x2 ![1] bcast_S2_S1x2_1 b))) bitsLt_bf16_f32)
    transposes_S100000x2_S2x100000_1_0

/-- The whole reference. -/
def ref (x : FVec Ideal S100000x128 .f32) (w1 : FVec Ideal S128x64 .f32) (b1 : FVec Ideal S64 .f32) (w2 : FVec Ideal S64x64 .f32)
    (b2 : FVec Ideal S64 .f32) (w3 : FVec Ideal S64x2 .f32) (b3 : FVec Ideal S2 .f32) : FVec Ideal S2x100000 .bf16 :=
  refScores (refHidden2 (refHidden1 x w1 b1) w2 b2) w3 b3

theorem refHidden1_apply (x : FVec Ideal S100000x128 .f32) (w : FVec Ideal S128x64 .f32) (b : FVec Ideal S64 .f32) (v : Fin 100000) (j : Fin 64) :
    refHidden1 x w b (ix2 v j) = rowHidden (fun k => x (ix2 v k)) w (fun j => b (ix1 j)) j := by
  have hm : Host.dotGeneral dot_S100000x128_S128x64_S100000x64_1_0_0_1_n_n none x w (ix2 v j)
      = (∑ k : Fin 128, x (ix2 v k) * w (ix2 k j) : EReal) := dotGeneral_plain_apply none x w v j
  unfold refHidden1 rowHidden
  show FloatOps.hostUnary .tanh (FloatOps.addf (Host.dotGeneral _ none x w (ix2 v j)) (broadcastInDim _ _ _ _ (ix2 v j))) = _
  rw [hm, refBias_apply]
  rfl

theorem refHidden2_apply (x : FVec Ideal S100000x64 .f32) (w : FVec Ideal S64x64 .f32) (b : FVec Ideal S64 .f32) (v : Fin 100000) (j : Fin 64) :
    refHidden2 x w b (ix2 v j) = rowHidden (fun k => x (ix2 v k)) w (fun j => b (ix1 j)) j := by
  have hm : Host.dotGeneral dot_S100000x64_S64x64_S100000x64_1_0_0_1_n_n none x w (ix2 v j)
      = (∑ k : Fin 64, x (ix2 v k) * w (ix2 k j) : EReal) := dotGeneral_plain_apply none x w v j
  unfold refHidden2 rowHidden
  show FloatOps.hostUnary .tanh (FloatOps.addf (Host.dotGeneral _ none x w (ix2 v j)) (broadcastInDim _ _ _ _ (ix2 v j))) = _
  rw [hm, refBias_apply]
  rfl

theorem refScores_apply (x : FVec Ideal S100000x64 .f32) (w : FVec Ideal S64x2 .f32) (b : FVec Ideal S2 .f32) (o : Fin 2) (v : Fin 100000) :
    refScores x w b (ix2 o v) = FloatOps.truncf .bf16 bitsLt_bf16_f32
      (FloatOps.addf (∑ k : Fin 64, x (ix2 v k) * w (ix2 k o) : EReal) (b (ix1 o))) := by
  have hm : Host.dotGeneral dot_S100000x64_S64x2_S100000x2_1_0_0_1_n_n none x w (ix2 v o)
      = (∑ k : Fin 64, x (ix2 v k) * w (ix2 k o) : EReal) := dotGeneral_plain_apply none x w v o
  have hb : broadcastInDim S100000x2 ![0, 1] bcast_S1x2_S100000x2_0_1 (broadcastInDim S1x2 ![1] bcast_S2_S1x2_1 b) (ix2 v o) = b (ix1 o) := by
    refine (broadcastInDim_apply _ _ _ (ix2 v o) (ix2 (0 : Fin 1) o) fun a => ?_).trans
      (broadcastInDim_apply _ _ _ (ix2 (0 : Fin 1) o) (ix1 o) fun a => ?_)
    · match a with
      | ⟨0, _⟩ => rfl
      | ⟨1, _⟩ => rfl
    · match a with
      | ⟨0, _⟩ => rfl
  unfold refScores
  refine (transpose_apply _ _ _ (ix2 o v) (ix2 v o) fun a => ?_).trans ?_
  · match a with
    | ⟨0, _⟩ => rfl
    | ⟨1, _⟩ => rfl
  show FloatOps.truncf .bf16 _ (FloatOps.addf (Host.dotGeneral _ none x w (ix2 v o)) (broadcastInDim _ _ _ _ (ix2 v o))) = _
  rw [hm, hb]

/-- The reference at (class, row): the network on that row of the table. -/
theorem ref_apply (x : FVec Ideal S100000x128 .f32) (w1 : FVec Ideal S128x64 .f32) (b1 : FVec Ideal S64 .f32) (w2 : FVec Ideal S64x64 .f32)
    (b2 : FVec Ideal S64 .f32) (w3 : FVec Ideal S64x2 .f32) (b3 : FVec Ideal S2 .f32) (o : Fin 2) (v : Fin 100000) :
    ref x w1 b1 w2 b2 w3 b3 (ix2 o v)
      = rowScores (fun k => x (ix2 v k)) w1 (fun j => b1 (ix1 j)) w2 (fun j => b2 (ix1 j)) w3 (fun j => b3 (ix1 j)) o := by
  unfold ref rowScores
  rw [refScores_apply]
  simp only [refHidden2_apply, refHidden1_apply]

end Reference

end Cert.Proof.Dense

end
-- ==== Proof.DenseValue.lean ====
/-
  The TensorCore call's result at the reals. Point `t`'s block is columns 20480·t … of the result, and what the body
  leaves there at (class, r), for a row r inside the table, is the network on row 20480·t + r: the rows past the
  table's end reach no element that is written back. So the result array ends holding the reference's array.
-/
module

public import proofs.«01_k».proof.Proof.Dense
public import proofs.«01_k».proof.Proof.DenseLayers
public import Idealize.ShloMosaic.Lib.Pipeline.ValueKit
public import Idealize.ShloMosaic.Lib.StableHlo.Run

@[expose] public section

noncomputable section

namespace Cert.Proof.Dense

open Cert.TableIdeal Cert.TableIdeal.Gen
open Idealize.ShloMosaic hiding ix1 ix2
open Idealize.ShloMosaic.TcCoe Idealize.ShloMosaic.ValueIdx
open Idealize.SL Idealize.SL.RA Idealize.SL.Sem
open Idealize.ShloMosaic.Pipeline (Dat RDat Cfg Window)

variable (m : (ℓ : Loc nD τ sig) → Buf (Elt Ideal) ℓ)

/-! ## Where the blocks sit -/

theorem index0_0 (t : Fin grid0.N) : win0_0.index t 0 = t.val := by
  rcases fin_N0 t with rfl | rfl | rfl | rfl | rfl <;> decide
theorem index0_1 (t : Fin grid0.N) : win0_0.index t 1 = 0 := by
  rcases fin_N0 t with rfl | rfl | rfl | rfl | rfl <;> decide
theorem index7_0 (t : Fin grid0.N) : win0_7.index t 0 = 0 := by
  rcases fin_N0 t with rfl | rfl | rfl | rfl | rfl <;> decide
theorem index7_1 (t : Fin grid0.N) : win0_7.index t 1 = t.val := by
  rcases fin_N0 t with rfl | rfl | rfl | rfl | rfl <;> decide

/-- The rows of the embedding block inside the table are as many as the columns of the result's block inside the
    result. -/
theorem xsize_eq (t : Fin grid0.N) : win0_0.xsize (grid0.coords t) 0 = win0_7.xsize (grid0.coords t) 1 := by
  rcases fin_N0 t with rfl | rfl | rfl | rfl | rfl <;> decide +kernel
theorem xsize0_1 (t : Fin grid0.N) : win0_0.xsize (grid0.coords t) 1 = 128 := by
  rcases fin_N0 t with rfl | rfl | rfl | rfl | rfl <;> decide +kernel
theorem xsize7_1 (t : Fin grid0.N) : win0_7.xsize (grid0.coords t) 1 = if t.val = 4 then 18080 else 20480 := by
  rcases fin_N0 t with rfl | rfl | rfl | rfl | rfl <;> decide +kernel
theorem xsize7_0 (t : Fin grid0.N) : win0_7.xsize (grid0.coords t) 0 = 2 := by
  rcases fin_N0 t with rfl | rfl | rfl | rfl | rfl <;> decide +kernel

/-! ## What the body finds -/

/-- A row of the embedding window's buffer that lies inside the table, whatever the buffer held before. -/
theorem fetched0_apply (c : Dev nD) (t : Fin cfg0.N) (d : S20480x128.Idx → Elt Ideal .f32) (r : Fin 20480)
    (hr : r.val < win0_0.xsize (grid0.coords t) 0) (v : Fin 100000) (hv : v.val = t.val * 20480 + r.val) (k : Fin 128) :
    fetched0 m c t d (ix2 r k) = m ((c : Thread nD τ).loc main_arg0) (ix2 v k) := by
  have hmv : win0_0.moved (grid0.coords t) (ix2 r k) = true := (win0_0.moved_iff _ _).mpr fun a => by
    match a with
    | ⟨0, _⟩ => exact hr
    | ⟨1, _⟩ => exact (xsize0_1 t).symm ▸ k.isLt
  unfold fetched0 Window.fill
  rw [dif_pos hmv]
  unfold iblk
  rw [View.read_apply]
  show V m c main_arg0 _ = _
  rw [V_main_arg0]
  refine congrArg _ (funext fun a => Fin.ext ?_)
  match a with
  | ⟨0, _⟩ =>
    refine (win0_0.rect_emb_val t _ 0).trans ?_
    rw [index0_0]; exact hv.symm
  | ⟨1, _⟩ =>
    refine (win0_0.rect_emb_val t _ 1).trans ?_
    rw [index0_1]; exact Nat.zero_add _

/-- The first layer's weights arrive whole; -/
theorem w1_apply (c : Dev nD) (t : Fin cfg0.N) : iblk m c 1 t = m ((c : Thread nD τ).loc main_arg1) := by
  funext j
  unfold iblk
  rw [View.read_apply]
  show V m c main_arg1 _ = _
  rw [V_main_arg1]
  refine congrArg _ (funext fun a => Fin.ext ?_)
  match a with
  | ⟨0, _⟩ => exact (win0_1.rect_emb_val_of_index_zero t 0 rfl _)
  | ⟨1, _⟩ => exact (win0_1.rect_emb_val_of_index_zero t 1 rfl _)
/-- so do the second's, -/
theorem w2_apply (c : Dev nD) (t : Fin cfg0.N) : iblk m c 3 t = m ((c : Thread nD τ).loc main_arg3) := by
  funext j
  unfold iblk
  rw [View.read_apply]
  show V m c main_arg3 _ = _
  rw [V_main_arg3]
  refine congrArg _ (funext fun a => Fin.ext ?_)
  match a with
  | ⟨0, _⟩ => exact (win0_3.rect_emb_val_of_index_zero t 0 rfl _)
  | ⟨1, _⟩ => exact (win0_3.rect_emb_val_of_index_zero t 1 rfl _)
/-- and the output layer's. -/
theorem w3_apply (c : Dev nD) (t : Fin cfg0.N) : iblk m c 5 t = m ((c : Thread nD τ).loc main_arg5) := by
  funext j
  unfold iblk
  rw [View.read_apply]
  show V m c main_arg5 _ = _
  rw [V_main_arg5]
  refine congrArg _ (funext fun a => Fin.ext ?_)
  match a with
  | ⟨0, _⟩ => exact (win0_5.rect_emb_val_of_index_zero t 0 rfl _)
  | ⟨1, _⟩ => exact (win0_5.rect_emb_val_of_index_zero t 1 rfl _)

/-- The reshapes before the region: a bias vector as one row, -/
theorem V_v0 (c : Dev nD) : V m c main_v0 = shapeCast S1x64 (m ((c : Thread nD τ).loc main_arg2)) shapeCasts_S64_S1x64 := by
  unfold V hostOps0; after_results; rfl
theorem V_v1 (c : Dev nD) : V m c main_v1 = shapeCast S1x64 (m ((c : Thread nD τ).loc main_arg4)) shapeCasts_S64_S1x64 := by
  unfold V hostOps0; after_results; rfl
/-- the output layer's as one column. -/
theorem V_v2 (c : Dev nD) : V m c main_v2 = shapeCast S2x1 (m ((c : Thread nD τ).loc main_arg6)) shapeCasts_S2_S2x1 := by
  unfold V hostOps0; after_results; rfl

theorem b1_apply (c : Dev nD) (t : Fin cfg0.N) (j : Fin 64) :
    iblk m c 2 t (ix2 (0 : Fin 1) j) = m ((c : Thread nD τ).loc main_arg2) (ix1 j) := by
  unfold iblk
  rw [View.read_apply]
  show V m c main_v0 _ = _
  rw [V_v0]
  refine shapeCast_apply _ _ _ (ix1 j) ?_
  rw [Shape.rowMajor_val_one, Shape.rowMajor_val_two]
  have e0 := win0_2.rect_emb_val_of_index_zero t 0 rfl (ix2 (0 : Fin 1) j)
  have e1 := win0_2.rect_emb_val_of_index_zero t 1 rfl (ix2 (0 : Fin 1) j)
  show j.val = ((win0_2.rect t).emb (ix2 (0 : Fin 1) j) 0 : Nat) * 64 + ((win0_2.rect t).emb (ix2 (0 : Fin 1) j) 1 : Nat)
  rw [e0, e1]
  show j.val = 0 * 64 + j.val
  omega
theorem b2_apply (c : Dev nD) (t : Fin cfg0.N) (j : Fin 64) :
    iblk m c 4 t (ix2 (0 : Fin 1) j) = m ((c : Thread nD τ).loc main_arg4) (ix1 j) := by
  unfold iblk
  rw [View.read_apply]
  show V m c main_v1 _ = _
  rw [V_v1]
  refine shapeCast_apply _ _ _ (ix1 j) ?_
  rw [Shape.rowMajor_val_one, Shape.rowMajor_val_two]
  have e0 := win0_4.rect_emb_val_of_index_zero t 0 rfl (ix2 (0 : Fin 1) j)
  have e1 := win0_4.rect_emb_val_of_index_zero t 1 rfl (ix2 (0 : Fin 1) j)
  show j.val = ((win0_4.rect t).emb (ix2 (0 : Fin 1) j) 0 : Nat) * 64 + ((win0_4.rect t).emb (ix2 (0 : Fin 1) j) 1 : Nat)
  rw [e0, e1]
  show j.val = 0 * 64 + j.val
  omega
theorem b3_apply (c : Dev nD) (t : Fin cfg0.N) (j : Fin 2) :
    iblk m c 6 t (ix2 j (0 : Fin 1)) = m ((c : Thread nD τ).loc main_arg6) (ix1 j) := by
  unfold iblk
  rw [View.read_apply]
  show V m c main_v2 _ = _
  rw [V_v2]
  refine shapeCast_apply _ _ _ (ix1 j) ?_
  rw [Shape.rowMajor_val_one, Shape.rowMajor_val_two]
  have e0 := win0_6.rect_emb_val_of_index_zero t 0 rfl (ix2 j (0 : Fin 1))
  have e1 := win0_6.rect_emb_val_of_index_zero t 1 rfl (ix2 j (0 : Fin 1))
  show j.val = ((win0_6.rect t).emb (ix2 j (0 : Fin 1)) 0 : Nat) * 1 + ((win0_6.rect t).emb (ix2 j (0 : Fin 1)) 1 : Nat)
  rw [e0, e1]
  show j.val = j.val * 1 + 0
  omega

/-! ## The result -/

/-- The reference's array on the kernel's arguments. -/
def table (c : Dev nD) : Buf (Elt Ideal) ((c : Thread nD τ).loc main_v3) :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What the body leaves at (class, r), for a row inside the table, is the reference's array there. -/
theorem left7_apply (c : Dev nD) (t : Fin cfg0.N) (d : S20480x128.Idx → Elt Ideal .f32) (o : Fin 2) (r : Fin 20480)
    (hr : r.val < win0_0.xsize (grid0.coords t) 0) (v : Fin 100000) (hv : v.val = t.val * 20480 + r.val) :
    left7 m c t d (ix2 o r) = table m c (ix2 o v) := by
  unfold left7 table
  refine (block_apply _ _ _ _ _ _ _ o r).trans (Eq.trans ?_ (ref_apply _ _ _ _ _ _ _ o v).symm)
  rw [w1_apply, w2_apply, w3_apply]
  simp only [fetched0_apply m c t d r hr v hv, b1_apply, b2_apply, b3_apply]

/-- The result's array at the end of a run. -/
theorem result_of {r : PUnit × MemSt nD τ sig (Elt Ideal)} (h : RDat.FramePost cfg0 (rdats m) (V m) r) (c : Dev nD) :
    r.2.mem ((c.tc : Thread nD τ).loc main_v3) = table m c := by
  obtain ⟨after, hL, hA⟩ := h.exists_exact c
  refine (hA 7).trans ?_
  refine Dat.arrAt_eq_of_cover ((rdats m c).withAfter after) 7 (table m c) (fun t hf => ?_) (fun i => ?_)
  · obtain ⟨d, hd⟩ : ∃ d, after 7 t = left7 m c t d := Dat.toRRel_leaves (dats m c) (w := 7) rfl (hL 7 t hf)
    funext y
    rw [View.read_apply]
    have hy0 : (y 0).val < 2 := (y 0).isLt.trans_eq (xsize7_0 t)
    have hx : (y 1).val < win0_7.xsize (grid0.coords t) 1 := (y 1).isLt
    have hs := xsize7_1 t
    have ht : t.val < 5 := t.isLt.trans_eq N_0
    have hy1 : (y 1).val < 20480 := by
      rw [hs] at hx; split at hx <;> omega
    have hv : t.val * 20480 + (y 1).val < 100000 := by
      rw [hs] at hx; split at hx <;> omega
    have e := left7_apply m c t d ⟨(y 0).val, hy0⟩ ⟨(y 1).val, hy1⟩ ((xsize_eq t).symm ▸ hx) ⟨t.val * 20480 + (y 1).val, hv⟩ rfl
    show after 7 t (win0_7.xinj (grid0.coords t) y) = table m c ((win0_7.rect t).emb y)
    rw [hd]
    refine Eq.trans (congrArg _ (funext fun a => Fin.ext ?_)) (e.trans (congrArg _ (funext fun a => Fin.ext ?_)))
    · match a with
      | ⟨0, _⟩ => rfl
      | ⟨1, _⟩ => rfl
    · match a with
      | ⟨0, _⟩ =>
        refine Eq.symm ((win0_7.rect_emb_val t y 0).trans ?_)
        rw [index7_0]; exact (congrArg (· + (y 0).val) (Nat.zero_mul _)).trans (Nat.zero_add _)
      | ⟨1, _⟩ =>
        refine Eq.symm ((win0_7.rect_emb_val t y 1).trans ?_)
        rw [index7_1]; rfl
  · have hi0 : (i 0).val < 2 := (i 0).isLt
    have hi1 : (i 1).val < 100000 := (i 1).isLt
    have hN : (i 1).val / 20480 < grid0.N := by rw [N_0]; omega
    refine ⟨⟨(i 1).val / 20480, hN⟩, flush0_7 _, ?_⟩
    show i ∈ ((View.whole main_v3).slice (win0_7.rect ⟨(i 1).val / 20480, hN⟩)).set
    rw [View.set_slice_whole, Rect.mem_set_unit]
    have h0 := index7_0 ⟨(i 1).val / 20480, hN⟩
    have h1 := index7_1 ⟨(i 1).val / 20480, hN⟩
    have s0 := xsize7_0 ⟨(i 1).val / 20480, hN⟩
    have s1 := xsize7_1 ⟨(i 1).val / 20480, hN⟩
    intro a
    match a with
    | ⟨0, _⟩ =>
      show win0_7.index _ 0 * 2 ≤ (i 0).val ∧ (i 0).val < win0_7.index _ 0 * 2 + win0_7.xsize _ 0
      rw [h0, s0]; omega
    | ⟨1, _⟩ =>
      show win0_7.index _ 1 * 20480 ≤ (i 1).val ∧ (i 1).val < win0_7.index _ 1 * 20480 + win0_7.xsize _ 1
      rw [h1, s1]
      show (i 1).val / 20480 * 20480 ≤ (i 1).val ∧ (i 1).val < (i 1).val / 20480 * 20480 + if (i 1).val / 20480 = 4 then 18080 else 20480
      split <;> omega

end Cert.Proof.Dense

end
-- ==== Proof.Slots.lean ====
/-
  The words of one tile's gather, as numbers. A tile looks 13312 indices up, index number `g` of its slice being the
  one of row `g / 26` and field `g % 26`; the word it finds goes to slot `(g % 26) · 512 + g / 26` of its staging
  buffer (field-major). The kernel computes that slot on the vector unit, by a floor division written with signs and
  remainders: `slotW` is one lane of that computation, `slotW_toNat` its value.
-/
module

public import proofs.«01_k».proof.Proof.Gen.KernelIdeal.Skeleton

@[expose] public section

noncomputable section

namespace Cert.Proof.Lookup

open Idealize.ShloMosaic
open Cert.KernelIdeal Cert.KernelIdeal.Gen

/-- The slot of index number `g`. -/
def slot (g : ℕ) : ℕ := g % 26 * 512 + g / 26

/-- A slot of a tile's index lies in its staging buffer. -/
theorem slot_lt {g : ℕ} (h : g < 13312) : slot g < 13312 := by unfold slot; omega

/-- Two indices never share a slot. -/
theorem slot_inj {g h : ℕ} (hg : g < 13312) (hh : h < 13312) (e : slot g = slot h) : g = h := by
  unfold slot at e; omega

/-- The index number whose slot is `p`. -/
def unslot (p : ℕ) : ℕ := p % 512 * 26 + p / 512

/-- Every slot is an index's. -/
theorem unslot_lt {p : ℕ} (h : p < 13312) : unslot p < 13312 := by unfold unslot; omega

/-- `unslot` names the slot's index. -/
theorem slot_unslot {p : ℕ} (h : p < 13312) : slot (unslot p) = p := by unfold slot unslot; omega

/-- The floor quotient by 26 of a word, as the kernel computes it: the quotient rounded toward zero, less one where
    the signs differ and the remainder is not zero. -/
def quotW (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 26#32 0#32)) (Scalar.extui (Scalar.cmpi .slt 26#32 0#32))))
      (IntOp.cmpi .ne (IntOp.remsi .vector w 26#32) 0#32))
    (IntOp.subi (IntOp.divsi .vector w 26#32) 1#32)
    (IntOp.divsi .vector w 26#32)

/-- One lane of the kernel's slot computation. -/
def slotW (w : BitVec 32) : BitVec 32 :=
  IntOp.addi (IntOp.muli (IntOp.subi w (IntOp.muli (quotW w) 26#32)) 512#32) (quotW w)

/-- Of a word that is non-negative as a signed number, the kernel's floor quotient is the quotient. -/
theorem quotW_toNat {w : BitVec 32} (h : w.toNat < 13312) : (quotW w).toNat = w.toNat / 26 := by
  have hm : w.msb = false := by rw [BitVec.msb_eq_decide]; simp; omega
  have hdiv : IntOp.divsi .vector w 26#32 = w / 26#32 := by
    unfold IntOp.divsi
    rw [if_neg (by unfold IntOp.SDivCorner; simp), BitVec.sdiv_eq, hm]
    rfl
  have hrem : IntOp.remsi .vector w 26#32 = w % 26#32 := by
    unfold IntOp.remsi
    rw [if_neg (by unfold IntOp.SDivCorner; simp), BitVec.srem_eq, hm]
    rfl
  have hq : (w / 26#32).toNat = w.toNat / 26 := by rw [BitVec.toNat_udiv]; rfl
  unfold quotW
  rw [hdiv, hrem]
  by_cases hw : w = 0#32
  · subst hw; decide
  · have h0 : 0 < w.toNat := by
      rcases Nat.eq_zero_or_pos w.toNat with e | e
      · exact absurd (BitVec.eq_of_toNat_eq (by simpa using e)) hw
      · exact e
    have h1 : IntOp.cmpi .sgt w 0#32 = 1#1 := by
      have : (0#32).slt w = true := by
        rw [BitVec.slt_eq_decide, BitVec.toInt_eq_toNat_cond, BitVec.toInt_eq_toNat_cond]
        simp; omega
      show BitVec.ofBool ((0#32).slt w) = 1#1
      rw [this]; rfl
    have h2 : IntOp.cmpi .slt w 0#32 = 0#1 := by
      have : w.slt 0#32 = false := by
        rw [BitVec.slt_eq_decide, BitVec.toInt_eq_toNat_cond, BitVec.toInt_eq_toNat_cond]
        simp; omega
      show BitVec.ofBool (w.slt 0#32) = 0#1
      rw [this]; rfl
    rw [h1, h2]
    have h3 : IntOp.cmpi .ne (IntOp.subi ((1#1).setWidth 32) ((0#1).setWidth 32))
        (Scalar.subi (Scalar.extui (Scalar.cmpi .sgt 26#32 0#32)) (Scalar.extui (Scalar.cmpi .slt 26#32 0#32))) = 0#1 := by decide
    rw [h3]
    have h4 : ∀ b : BitVec 1, IntOp.andi 0#1 b = 0#1 := by decide
    rw [h4]
    exact hq

/-- The kernel's lane computes the slot. -/
theorem slotW_toNat {w : BitVec 32} (h : w.toNat < 13312) : (slotW w).toNat = slot w.toNat := by
  have hq := quotW_toNat h
  unfold slotW slot IntOp.addi IntOp.muli IntOp.subi
  rw [BitVec.toNat_add, BitVec.toNat_mul, BitVec.toNat_sub, BitVec.toNat_mul, hq]
  simp only [BitVec.toNat_ofNat]
  omega

/-- The number of the index that lane `x` of group `j` handles on trip `t`. -/
def num (t : Fin k0_t1_loop.trips) (j : ℕ) (x : S16.Idx) : ℕ := 64 * t.val + 16 * j + (x 0).val

theorem trips_eq : k0_t1_loop.trips = 208 := by decide

/-- A tile's index numbers are below 13312. -/
theorem num_lt (t : Fin k0_t1_loop.trips) {j : ℕ} (hj : j < 4) (x : S16.Idx) : num t j x < 13312 := by
  have h1 : t.val < 208 := lt_of_lt_of_eq t.isLt trips_eq
  have h2 : (x 0).val < 16 := (x 0).isLt
  unfold num; omega

/-- The lanes' own numbers, as the kernel makes them once. -/
abbrev lanes : IVec S16 32 := iota .scVector S16 32 [0] iota_S16_d0_w32_scVector

/-- The base of a trip's index numbers, as a word. -/
abbrev baseW (t : Fin k0_t1_loop.trips) : BitVec 32 := Scalar.addi 0#32 (Scalar.muli (Scf.iv 0#32 1#32 t) 64#32)

/-- The index number as a word: base, group offset and lane added. -/
theorem numW_toNat (t : Fin k0_t1_loop.trips) {j : ℕ} (hj : j < 4) (x : S16.Idx) :
    (IntOp.addi (Scalar.addi (baseW t) (BitVec.ofNat 32 (16 * j))) (lanes x)).toNat = num t j x := by
  have h1 : t.val < 208 := lt_of_lt_of_eq t.isLt trips_eq
  have h2 : (x 0).val < 16 := (x 0).isLt
  show ((0#32 + (0#32 + BitVec.ofNat 32 t.val * 1#32) * 64#32) + BitVec.ofNat 32 (16 * j)
    + BitVec.ofNat 32 (0 * 16 + (x 0).val)).toNat = _
  simp only [BitVec.toNat_add, BitVec.toNat_mul, BitVec.toNat_ofNat]
  unfold num; omega

/-- The slots of the four groups of a trip: the payloads the kernel scatters at. -/
theorem pay1_toNat (t : Fin k0_t1_loop.trips) (x : S16.Idx) : (k0_pay1 lanes 0#32 1#32 t x).toNat = slot (num t 0 x) := by
  have e := numW_toNat t (j := 0) (by omega) x
  rw [← e]
  exact slotW_toNat (e ▸ num_lt t (by omega) x)

theorem pay3_toNat (t : Fin k0_t1_loop.trips) (x : S16.Idx) : (k0_pay3 (k0_pay2 lanes 0#32 1#32 t) x).toNat = slot (num t 1 x) := by
  have e := numW_toNat t (j := 1) (by omega) x
  rw [← e]
  exact slotW_toNat (e ▸ num_lt t (by omega) x)

theorem pay8_toNat (t : Fin k0_t1_loop.trips) (x : S16.Idx) :
    (k0_pay8 (k0_pay4 lanes (baseW t)) 26#32 (k0_pay5 lanes (baseW t)) (k0_pay6 lanes (baseW t)) k0_pay7 x).toNat = slot (num t 2 x) := by
  have e := numW_toNat t (j := 2) (by omega) x
  rw [← e]
  exact slotW_toNat (e ▸ num_lt t (by omega) x)

theorem pay13_toNat (t : Fin k0_t1_loop.trips) (x : S16.Idx) :
    (k0_pay13 (k0_pay9 lanes (baseW t)) 26#32 (k0_pay10 lanes (baseW t)) (k0_pay11 lanes (baseW t)) k0_pay12 x).toNat = slot (num t 3 x) := by
  have e := numW_toNat t (j := 3) (by omega) x
  rw [← e]
  exact slotW_toNat (e ▸ num_lt t (by omega) x)

end Cert.Proof.Lookup

end
-- ==== Proof.Setup.lean ====
/-
  The lookup kernel as the launch theorem sees it, and the words it computes. The kernel's `@main` flattens the index
  array, launches one SparseCore call over two SparseCores of sixteen tiles, and unpacks the words the call gathered.
  `want` is the array the call must leave: word `f · 16384 + b` is the table's word at index `b · 26 + f` of the
  flattened index array. Tile `w` of the 32 serves indices `13312 · w … 13312 · w + 13311`, which fill window
  `w` (512 words) of every field's 16384.
-/
module

public import proofs.«01_k».proof.Defs
public import proofs.«01_k».proof.Proof.Slots
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The handshake semaphores of the launch are distinct and unscoped, and no shared buffer belongs to a SparseCore. -/
theorem facts : (K (F := F)).Facts where
  start_ne_taskDone := by show sc_start ≠ sc_taskDone; decide
  start_unscoped := by show (SemLoc.reg sc_start : SemLoc sig).isScoped .scScalar = false; decide
  taskDone_unscoped := by show (SemLoc.reg sc_taskDone : SemLoc sig).isScoped .scScalar = false; decide
  go_unscoped := by show (SemLoc.reg sc_go : SemLoc sig).isScoped .scVector = false; decide
  done_unscoped := by show (SemLoc.reg sc_done : SemLoc sig).isScoped .tc = false; decide
  noTaskShared := by
    show ∀ (b : DevRef τ sig) (c : Fin τ.nSC), b.owner = .sc c → sig.taskShared b.table b.idx = false; decide
  noSeq := fun _ => rfl

/-! ## The assertions' resources: the handshakes' rounds, the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Buffers -/

abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The table, the flattened index array and the gathered words, as a tile addresses them; its three scratch buffers. -/
abbrev tV : Memref sig .scVector .hbm S100000 .i32 := Memref.whole main_arg1_scv
abbrev iV : Memref sig .scVector .hbm S425984 .i32 := Memref.whole main_v0_scv
abbrev oV : Memref sig .scVector .hbm S425984 .i32 := Memref.whole main_v1_scv
abbrev aV : Memref sig .scVector .vmem S100000 .i32 := Memref.whole cc0_scratch0
abbrev bV : Memref sig .scVector .vmem S13312 .i32 := Memref.whole cc0_scratch1
abbrev gV : Memref sig .scVector .vmem S13312 .i32 := Memref.whole cc0_scratch2

/-! ## The words -/

/-- Position `k` of the table. -/
def tIx (k : ℕ) : S100000.Idx := fun | 0 => ⟨k % 100000, Nat.mod_lt _ (by decide)⟩
/-- Position `k` of the flattened index array (and of the gathered words). -/
def iIx (k : ℕ) : S425984.Idx := fun | 0 => ⟨k % 425984, Nat.mod_lt _ (by decide)⟩
/-- Position `k` of a tile's staging buffer. -/
def sIx (k : ℕ) : S13312.Idx := fun | 0 => ⟨k % 13312, Nat.mod_lt _ (by decide)⟩

theorem tIx_val {k : ℕ} (h : k < 100000) : (tIx k 0).val = k := Nat.mod_eq_of_lt h
theorem iIx_val {k : ℕ} (h : k < 425984) : (iIx k 0).val = k := Nat.mod_eq_of_lt h
theorem sIx_val {k : ℕ} (h : k < 13312) : (sIx k 0).val = k := Nat.mod_eq_of_lt h

/-- A position of a tensor of one axis is its number. -/
theorem tIx_self (j : S100000.Idx) : tIx (j 0).val = j := by
  funext a; match a with | 0 => exact Fin.ext (Nat.mod_eq_of_lt (j 0).isLt)
theorem iIx_self (j : S425984.Idx) : iIx (j 0).val = j := by
  funext a; match a with | 0 => exact Fin.ext (Nat.mod_eq_of_lt (j 0).isLt)
theorem sIx_self (j : S13312.Idx) : sIx (j 0).val = j := by
  funext a; match a with | 0 => exact Fin.ext (Nat.mod_eq_of_lt (j 0).isLt)

/-- The table's word at index number `g` of the flattened index array. -/
def word (tab : S100000.Idx → BitVec 32) (ix : S425984.Idx → BitVec 32) (g : ℕ) : BitVec 32 := tab (tIx (ix (iIx g)).toNat)

/-- The words the call must gather: field-major, `f · 16384 + b`. -/
def want (tab : S100000.Idx → BitVec 32) (ix : S425984.Idx → BitVec 32) : S425984.Idx → BitVec 32 :=
  fun p => word tab ix ((p 0).val % 16384 * 26 + (p 0).val / 16384)

/-! ## The tiles -/

abbrev cV (L : grid0.Coords) : Fin τ.nSC := (L 0).castLE hcore0
abbrev jV (L : grid0.Coords) : Fin τ.nSub := (L 1).castLE hsub0
theorem core_lt (L : grid0.Coords) : (L 0).val < 2 := (L 0).isLt
theorem sub_lt (L : grid0.Coords) : (L 1).val < 16 := (L 1).isLt
/-- The number of tile `L`, of 32. -/
abbrev wid (L : grid0.Coords) : ℕ := 16 * (L 0).val + (L 1).val
theorem wid_lt (L : grid0.Coords) : wid L < 32 := by have := core_lt L; have := sub_lt L; unfold wid; omega

/-- The indices tile `w` serves. -/
def iSet (w : ℕ) : Finset S425984.Idx := Finset.univ.filter fun j => (j 0).val / 13312 = w
/-- The words tile `w` writes. -/
def oSet (w : ℕ) : Finset S425984.Idx := Finset.univ.filter fun j => (j 0).val % 16384 / 512 = w
/-- Those of field `f`. -/
def oWin (w : ℕ) (f : ℕ) : Finset S425984.Idx := Finset.univ.filter fun j => (j 0).val / 512 = 32 * f + w
/-- The staging slots of field `f`. -/
def gWin (f : ℕ) : Finset S13312.Idx := Finset.univ.filter fun j => (j 0).val / 512 = f

end Cert.Proof.Lookup
-- ==== Proof.Scatter.lean ====
/-
  The indexed store of a vector whose lanes go to distinct places: a lane's place holds the lane's word afterwards, and
  every other place what it held before.
-/
module

public import proofs.«01_k».proof.Proof.Setup

@[expose] public section

noncomputable section

namespace Cert.Proof.Lookup

open Cert.KernelIdeal Cert.KernelIdeal.Gen
open Idealize.ShloMosaic

variable {F : FTy → Type} [FloatOps F]

/-- Writing one list element after another at its own place, the places distinct: the last word at an element's place
    is that element's, and a place none of them has keeps its word. -/
theorem foldl_place {ι κ β : Type} [DecidableEq κ] (pl : ι → κ) (v : ι → β) :
    ∀ (l : List ι) (f : κ → β),
      (∀ j, (∀ k ∈ l, pl k ≠ j) → l.foldl (fun g k => fun j => if j = pl k then v k else g j) f j = f j)
      ∧ (l.Nodup → (∀ a ∈ l, ∀ b ∈ l, pl a = pl b → a = b) →
          ∀ k ∈ l, l.foldl (fun g k => fun j => if j = pl k then v k else g j) f (pl k) = v k)
  | [], f => ⟨fun _ _ => rfl, fun _ _ _ h => absurd h List.not_mem_nil⟩
  | a :: l, f => by
    refine ⟨fun j hj => ?_, fun hnd hinj k hk => ?_⟩
    · rw [List.foldl_cons, (foldl_place pl v l _).1 j fun k hk => hj k (List.mem_cons_of_mem _ hk)]
      exact if_neg fun e => hj a List.mem_cons_self e.symm
    · rw [List.foldl_cons]
      rcases List.mem_cons.mp hk with rfl | hk'
      · rw [(foldl_place pl v l _).1 (pl k) fun b hb e => ?_]
        · exact if_pos rfl
        · have := hinj b (List.mem_cons_of_mem _ hb) k List.mem_cons_self e
          exact (List.nodup_cons.mp hnd).1 (this ▸ hb)
      · exact (foldl_place pl v l _).2 (List.nodup_cons.mp hnd).2
          (fun x hx y hy => hinj x (List.mem_cons_of_mem _ hx) y (List.mem_cons_of_mem _ hy)) k hk'

section Store

variable {s : Shape} {e : EltTy} {d : Fin 1 → ℕ}

/-- Every index of a shape of one axis is a lane's. -/
theorem ofLane_surj (x : (⟨1, d⟩ : Shape).Idx) : Shape.ofLane (x 0) = x := by
  funext a; rw [Fin.eq_zero a]; rfl

/-- The unmasked indexed store is the fold over its lanes. -/
theorem storeIdx_eq_fold (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl
          (fun g k => fun j => if j = idxAt idxs h (Shape.ofLane k) then v (Shape.ofLane k) else g j) f := by
  unfold storeIdx
  congr 1
  funext g k j
  simp only [if_true, Bool.false_eq_true, if_false]
  refine if_congr ⟨fun hj => funext fun a => Fin.ext (hj a), fun hj a => by rw [hj]⟩ rfl rfl

/-- A place no lane names keeps its word. -/
theorem storeIdx_miss (f : Vec F s e) (idxs : Fin s.rank → IVec ⟨1, d⟩ 32) (v : Vec F ⟨1, d⟩ e)
    (h : ∀ a x, (idxs a x).toNat < s.size a) (j : s.Idx) (hj : ∀ x, idxAt idxs h x ≠ j) :
    storeIdx f idxs v (fun _ => 1#1) false h j = f j := by
  rw [storeIdx_eq_fold]
  exact (foldl_place (fun k => idxAt idxs h (Shape.ofLane k)) (fun k => v (Shape.ofLane k)) _ f).1 j fun k _ => hj _

/-- Where the lanes name distinct places, a lane's place gets the lane's word. -/
theorem storeIdx_hit (f : Vec F s e) (idxs : Fin s.rank → IVec ⟨1, d⟩ 32) (v : Vec F ⟨1, d⟩ e)
    (h : ∀ a x, (idxs a x).toNat < s.size a)
    (hinj : ∀ x y, idxAt idxs h x = idxAt idxs h y → x = y) (x : (⟨1, d⟩ : Shape).Idx) :
    storeIdx f idxs v (fun _ => 1#1) false h (idxAt idxs h x) = v x := by
  rw [storeIdx_eq_fold]
  have := (foldl_place (fun k => idxAt idxs h (Shape.ofLane k)) (fun k => v (Shape.ofLane k)) (List.finRange (d 0)) f).2
    (List.nodup_finRange _)
    (fun a _ b _ hab => by
      have e := congrFun (hinj _ _ hab) 0
      exact Fin.ext (congrArg Fin.val e))
    (x 0) (List.mem_finRange _)
  rwa [ofLane_surj] at this

end Store

/-! ## The staging buffer, as it fills -/

/-- The first `n` of tile `w`'s indices are looked up: each one's slot holds its word. -/
def Upto (tab : S100000.Idx → BitVec 32) (ix : S425984.Idx → BitVec 32) (w n : ℕ) (f : S13312.Idx → BitVec 32) : Prop :=
  ∀ g, g < n → f (sIx (slot g)) = word tab ix (13312 * w + g)

/-- One indexed store of sixteen words, those of indices `n … n + 15` at their slots, brings the buffer sixteen further. -/
theorem Upto.step {tab : S100000.Idx → BitVec 32} {ix : S425984.Idx → BitVec 32} {w n : ℕ} {f : S13312.Idx → BitVec 32}
    (hf : Upto tab ix w n f) (hn : n + 16 ≤ 13312) (p : IVec S16 32) (v : Vec F S16 .i32)
    (h : ∀ a x, ((![p] : Fin S13312.rank → IVec S16 32) a x).toNat < S13312.size a)
    (hp : ∀ x : S16.Idx, (p x).toNat = slot (n + (x 0).val))
    (hv : ∀ x : S16.Idx, v x = word tab ix (13312 * w + (n + (x 0).val))) :
    Upto tab ix w (n + 16) (storeIdx (F := F) (s := S13312) (e := .i32) f ![p] v (fun _ => 1#1) false h) := by
  have hplace : ∀ x : S16.Idx, idxAt (s := S13312) ![p] h x = sIx (slot (n + (x 0).val)) := fun x => by
    have hx : (x 0).val < 16 := (x 0).isLt
    funext a; match a with
    | 0 => exact Fin.ext ((hp x).trans (sIx_val (slot_lt (by omega))).symm)
  have hinj : ∀ x y : S16.Idx, idxAt (s := S13312) ![p] h x = idxAt (s := S13312) ![p] h y → x = y := fun x y e => by
    have hx : (x 0).val < 16 := (x 0).isLt
    have hy : (y 0).val < 16 := (y 0).isLt
    rw [hplace, hplace] at e
    have e0 := congrArg Fin.val (congrFun e 0)
    rw [sIx_val (slot_lt (by omega)), sIx_val (slot_lt (by omega))] at e0
    have := slot_inj (by omega) (by omega) e0
    funext a; match a with | 0 => exact Fin.ext (by omega)
  intro g hg
  by_cases hlt : g < n
  · rw [storeIdx_miss]
    · exact hf g hlt
    · intro x e
      have hx : (x 0).val < 16 := (x 0).isLt
      rw [hplace] at e
      have e0 := congrArg Fin.val (congrFun e 0)
      rw [sIx_val (slot_lt (by omega)), sIx_val (slot_lt (by omega))] at e0
      have := slot_inj (by omega) (by omega) e0
      omega
  · let x : S16.Idx := fun | 0 => ⟨g - n, by show g - n < 16; omega⟩
    have hx : n + (x 0).val = g := by show n + (g - n) = g; omega
    have := storeIdx_hit (F := F) (e := .i32) f ![p] v h hinj x
    rw [hplace x, hv x, hx] at this
    exact this

/-- A buffer filled to the end holds, at every slot, the word of the slot's index. -/
theorem Upto.full {tab : S100000.Idx → BitVec 32} {ix : S425984.Idx → BitVec 32} {w : ℕ} {f : S13312.Idx → BitVec 32}
    (hf : Upto tab ix w 13312 f) (j : S13312.Idx) : f j = word tab ix (13312 * w + unslot (j 0).val) := by
  have hj : (j 0).val < 13312 := (j 0).isLt
  have := hf _ (unslot_lt hj)
  rwa [slot_unslot hj, sIx_self] at this

end Cert.Proof.Lookup
-- ==== Proof.Trip.lean ====
/-
  One trip of a tile's lookup loop: sixty-four indices in four groups of sixteen, each group loaded, looked up in the
  tile's copy of the table, and stored at its slots of the staging buffer.
-/
module

public import proofs.«01_k».proof.Proof.Scatter

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tile

variable (d : Dev nD) (L : grid0.Coords)

/-- Tile `L` of device `d`. -/
abbrev thr : Thread nD τ := SparseCore.V d (cV L) (jV L)

/-- The tile's copy of the table, its indices, its staging buffer, each whole. -/
abbrev aPts (f : S100000.Idx → BitVec 32) : sProp 𝕄 := (aV).view.loc (thr d L) ↦{fullShare} f
abbrev bPts (f : S13312.Idx → BitVec 32) : sProp 𝕄 := (bV).view.loc (thr d L) ↦{fullShare} f
abbrev gPts (f : S13312.Idx → BitVec 32) : sProp 𝕄 := (gV).view.loc (thr d L) ↦{fullShare} f

/-- A load of sixteen consecutive indices. -/
theorem rule_load {α : Type} {Q : α → sProp 𝕄} (off : Fin 1 → ℕ) (inb : ∀ a, off a + S16.size a ≤ S13312.size a) {hl}
    (f : S13312.Idx → BitVec 32) {k : Vec F S16 .i32 → Prog (TpuEff nD τ sig (Elt F) Λ₀ (thr d L).2) α} :
    bPts (F := F) d L f
      ⊢ iprop((bPts (F := F) d L f -∗ wp frame (wpE (defs₀ (F := F)) 𝒱₀ (thr d L) none) Set.univ (k fun x => f (sIx (off 0 + (x 0).val))) Q)
        -∗ wp frame (wpE (defs₀ (F := F)) 𝒱₀ (thr d L) none) Set.univ
            (.op (.load bV (Rect.unit (s := S13312) off S16.size inb).toLoadRect hl) k) Q) := by
  have e : (bV).view.readAt (Elt F) (Rect.unit (s := S13312) off S16.size inb).toLoadRect f
      = fun x => f (sIx (off 0 + (x 0).val)) := by
    funext x
    have hx : (x 0).val < 16 := (x 0).isLt
    have hi : off 0 + 16 ≤ 13312 := inb 0
    rw [View.readAt_apply]
    show f _ = f _
    congr 1
    funext a; match a with
    | 0 => exact Fin.ext (by
        rw [sIx_val (by omega)]
        show off 0 + 1 * (x 0).val = _
        omega)
  have := wp_load (defs := defs₀ (F := F)) 𝒱₀ (thr d L) none Set.univ (m := bV) (Q := Q) (k := k) (hl := hl) (q := fullShare) (f := f) (Γ := [])
    (r := (Rect.unit (s := S13312) off S16.size inb).toLoadRect) (S := Finset.univ) (Finset.subset_univ _)
  rw [e] at this
  exact this

/-- A look-up of sixteen words in the tile's copy of the table. -/
theorem rule_lookup {α : Type} {Q : α → sProp 𝕄} (v : IVec S16 32)
    (h : ∀ a x, ((![v] : Fin 1 → IVec S16 32) a x).toNat < S100000.size a) {hl : (aV).view.Loads}
    (f : S100000.Idx → BitVec 32) {k : Vec F S16 .i32 → Prog (TpuEff nD τ sig (Elt F) Λ₀ (thr d L).2) α} :
    aPts (F := F) d L f
      ⊢ iprop((aPts (F := F) d L f -∗ wp frame (wpE (defs₀ (F := F)) 𝒱₀ (thr d L) none) Set.univ (k fun x => f (tIx (v x).toNat)) Q)
        -∗ wp frame (wpE (defs₀ (F := F)) 𝒱₀ (thr d L) none) Set.univ
            (SparseCore.vectorLoadIdx aV ![v] h hl >>= k) Q) := by
  have := SparseCore.wp_vectorLoadIdx (defs := defs₀ (F := F)) 𝒱₀ (thr d L) none Set.univ (base := aV) (Q := Q) (k := k) (hl := hl)
    (q := fullShare) (f := f) (idxs := ![v]) (h := h) (S := Finset.univ) (Finset.subset_univ _)
  have e : loadIdx (F := F) (((aV).access (.whole S100000)).read (Elt F) f) ![v] h = fun x => f (tIx (v x).toNat) := by
    funext x
    show f _ = f _
    congr 1
    funext a; match a with
    | 0 => exact Fin.ext (by
        have hv : (v x).toNat < 100000 := h 0 x
        rw [tIx_val hv]
        show 0 + 1 * (v x).toNat = _
        omega)
  rw [e] at this
  exact this

/-- An indexed store of sixteen words into the staging buffer. -/
theorem rule_scatter {α : Type} {Q : α → sProp 𝕄} (p : IVec S16 32) (v : Vec F S16 .i32)
    (h : ∀ a x, ((![p] : Fin 1 → IVec S16 32) a x).toNat < S13312.size a) {hs}
    (f : S13312.Idx → BitVec 32) {k : PUnit → Prog (TpuEff nD τ sig (Elt F) Λ₀ (thr d L).2) α} :
    gPts (F := F) d L f
      ⊢ iprop((gPts (F := F) d L (storeIdx (F := F) (s := S13312) (e := .i32) f ![p] v (fun _ => 1#1) false h)
          -∗ wp frame (wpE (defs₀ (F := F)) 𝒱₀ (thr d L) none) Set.univ (k ⟨⟩) Q)
        -∗ wp frame (wpE (defs₀ (F := F)) 𝒱₀ (thr d L) none) Set.univ
            (SparseCore.vectorStoreIdx gV ![p] v (fun _ => 1#1) false h hs >>= k) Q) := by
  have := SparseCore.wp_vectorStoreIdx (defs := defs₀ (F := F)) 𝒱₀ (thr d L) none Set.univ (base := gV) (Q := Q) (k := k) (hs := hs)
    (f := f) (idxs := ![p]) (h := h) (v := v) (mask := fun _ => 1#1) (add := false)
  have hset : ((gV).access (.whole S13312)).set = Finset.univ := by
    rw [View.set_slice_whole]
    exact Rect.set_whole _
  have hread : ((gV).access (.whole S13312)).read (Elt F) f = f := by
    funext x
    show f _ = f _
    congr 1
    funext a; match a with | 0 => exact Fin.ext (by show 0 + 1 * (x 0).val = _; omega)
  have hwrite : ∀ w : S13312.Idx → BitVec 32, ((gV).access (.whole S13312)).write (Elt F) f w Finset.univ = w := by
    intro w
    funext x
    have hx : ((gV).access (.whole S13312)).emb x = x := by
      funext a; match a with | 0 => exact Fin.ext (by show 0 + 1 * (x 0).val = _; omega)
    have := View.write_emb_of_mem (Val := Elt F) (v := (gV).access (.whole S13312)) f w (Finset.mem_univ x)
    rw [hx] at this
    exact this
  rw [hset, hread, hwrite] at this
  exact this

variable (tab : S100000.Idx → BitVec 32) (ix : S425984.Idx → BitVec 32)

/-- Before trip `n`: the table and the tile's indices in place, and the first `64 · n` words at their slots. -/
def inv (fb : S13312.Idx → BitVec 32) (n : ℕ) (_ : Unit) : sProp 𝕄 :=
  iprop(aPts (F := F) d L tab ∗ bPts (F := F) d L fb ∗ ∃ fg, ⌜Upto tab ix (wid L) (64 * n) fg⌝ ∗ gPts (F := F) d L fg)

/-- A trip keeps the loop's invariant. -/
theorem trip (hix : ∀ j, (ix j).toNat < 100000) (fb : S13312.Idx → BitVec 32)
    (hb : ∀ k, k < 13312 → fb (sIx k) = ix (iIx (13312 * wid L + k))) (s8 s9 s10 : DmaSems sig S_)
    (t : Fin k0_t1_loop.trips) (u : Unit) :
    inv (F := F) d L tab ix fb t u
      ⊢ wp frame (wpE (defs₀ (F := F)) 𝒱₀ (thr d L) none) Set.univ
          (k0_t1_body L tV (Memref.isWhole_whole _) iV (Memref.isWhole_whole _) oV (Memref.isWhole_whole _)
            aV (Memref.isWhole_whole _) bV (Memref.isWhole_whole _) gV (Memref.isWhole_whole _) s8 s9 s10 lanes t u)
          (inv (F := F) d L tab ix fb (t.val + 1)) := by
  have ht : t.val < 208 := lt_of_lt_of_eq t.isLt trips_eq
  -- group `j`'s indices, as loaded, and the words looked up at them
  have hld : ∀ j, j < 4 → ∀ off : Fin 1 → ℕ, off = ![64 * t.val + 16 * j] → ∀ x : S16.Idx,
      fb (sIx (off 0 + (x 0).val)) = ix (iIx (13312 * wid L + num t j x)) :=
    fun j hj off ho x => by subst ho; exact hb _ (num_lt t hj x)
  have hchk : ∀ j, j < 4 → ∀ off : Fin 1 → ℕ, off = ![64 * t.val + 16 * j] → ∀ x : S16.Idx,
      (fb (sIx (off 0 + (x 0).val))).toNat < 100000 :=
    fun j hj off ho x => by rw [hld j hj off ho]; exact hix _
  have hword : ∀ j, j < 4 → ∀ off : Fin 1 → ℕ, off = ![64 * t.val + 16 * j] → ∀ x : S16.Idx,
      tab (tIx (fb (sIx (off 0 + (x 0).val))).toNat) = word tab ix (13312 * wid L + (64 * t.val + 16 * j + (x 0).val)) :=
    fun j hj off ho x => by rw [hld j hj off ho]; rfl
  unfold k0_t1_body
  simp only [k0_part1_eq_skeleton, k0_part2_eq_skeleton, k0_part3_eq_skeleton]
  unfold k0_part1_skel k0_part2_skel k0_part3_skel
  simp only [Prog.lift, Prog.bind_op, Prog.bind_ret, bind_assoc, pure_bind]
  unfold inv
  iintro ⟨Ha, Hb, %fg, %hfg, Hg⟩
  -- group 0
  iapply (rule_load (F := F) d L _ _ fb) $$ Hb; iintro Hb
  rw [wp_assume_of _ _ _ _ (show k0_chk1 _ from fun a x => by
    match a with | 0 => exact hchk 0 (by omega) _ (k0_off2_eq t) x)]
  iapply (rule_lookup (F := F) d L _ _ tab) $$ Ha; iintro Ha
  rw [wp_assume_of _ _ _ _ (show k0_chk2 _ from fun a x => by
    match a with | 0 => exact lt_of_eq_of_lt (pay1_toNat t x) (slot_lt (num_lt t (by omega) x)))]
  iapply (rule_scatter (F := F) d L _ _ _ _) $$ Hg; iintro Hg
  -- group 1
  iapply (rule_load (F := F) d L _ _ fb) $$ Hb; iintro Hb
  rw [wp_assume_of _ _ _ _ (show k0_chk3 _ from fun a x => by
    match a with | 0 => exact hchk 1 (by omega) _ (k0_off3_eq t) x)]
  iapply (rule_lookup (F := F) d L _ _ tab) $$ Ha; iintro Ha
  rw [wp_assume_of _ _ _ _ (show k0_chk4 _ from fun a x => by
    match a with | 0 => exact lt_of_eq_of_lt (pay3_toNat t x) (slot_lt (num_lt t (by omega) x)))]
  iapply (rule_scatter (F := F) d L _ _ _ _) $$ Hg; iintro Hg
  -- group 2
  iapply (rule_load (F := F) d L _ _ fb) $$ Hb; iintro Hb
  rw [wp_assume_of _ _ _ _ (show k0_chk5 _ from fun a x => by
    match a with | 0 => exact hchk 2 (by omega) _ (k0_off4_eq t) x)]
  iapply (rule_lookup (F := F) d L _ _ tab) $$ Ha; iintro Ha
  rw [wp_assume_of _ _ _ _ (show k0_chk6 _ from fun a x => by
    match a with | 0 => exact lt_of_eq_of_lt (pay8_toNat t x) (slot_lt (num_lt t (by omega) x)))]
  iapply (rule_scatter (F := F) d L _ _ _ _) $$ Hg; iintro Hg
  -- group 3
  iapply (rule_load (F := F) d L _ _ fb) $$ Hb; iintro Hb
  rw [wp_assume_of _ _ _ _ (show k0_chk7 _ from fun a x => by
    match a with | 0 => exact hchk 3 (by omega) _ (k0_off5_eq t) x)]
  iapply (rule_lookup (F := F) d L _ _ tab) $$ Ha; iintro Ha
  rw [wp_assume_of _ _ _ _ (show k0_chk8 _ from fun a x => by
    match a with | 0 => exact lt_of_eq_of_lt (pay13_toNat t x) (slot_lt (num_lt t (by omega) x)))]
  iapply (rule_scatter (F := F) d L _ _ _ _) $$ Hg; iintro Hg
  rw [show (Pure.pure PUnit.unit : Prog (TpuEff nD τ sig (Elt F) Λ₀ (thr d L).2) Unit) = .ret ⟨⟩ from rfl, wp_ret]
  imodintro
  isplitl [Ha]; · iexact Ha
  isplitl [Hb]; · iexact Hb
  iexists _
  isplitr
  rotate_left
  · iexact Hg
  ipureintro
  have h0 := hfg.step (F := F) (by omega) _ _ (k0_idx2_inb _ (fun a x => by
    match a with | 0 => exact lt_of_eq_of_lt (pay1_toNat t x) (slot_lt (num_lt t (by omega) x)))) (pay1_toNat t) (hword 0 (by omega) _ (k0_off2_eq t))
  have h1 := Upto.step (F := F) (n := 64 * t.val + 16) h0 (by omega) _ _ (k0_idx4_inb _ (fun a x => by
    match a with | 0 => exact lt_of_eq_of_lt (pay3_toNat t x) (slot_lt (num_lt t (by omega) x)))) (pay3_toNat t) (hword 1 (by omega) _ (k0_off3_eq t))
  have h2 := Upto.step (F := F) (n := 64 * t.val + 16 * 2) h1 (by omega) _ _ (k0_idx6_inb _ (fun a x => by
    match a with | 0 => exact lt_of_eq_of_lt (pay8_toNat t x) (slot_lt (num_lt t (by omega) x)))) (pay8_toNat t) (hword 2 (by omega) _ (k0_off4_eq t))
  have h3 := Upto.step (F := F) (n := 64 * t.val + 16 * 3) h2 (by omega) _ _ (k0_idx8_inb _ (fun a x => by
    match a with | 0 => exact lt_of_eq_of_lt (pay13_toNat t x) (slot_lt (num_lt t (by omega) x)))) (pay13_toNat t) (hword 3 (by omega) _ (k0_off5_eq t))
  exact h3

end Tile
end Cert.Proof.Lookup
-- ==== Proof.Out.lean ====
/-
  A tile's twenty-six writes out of its staging buffer, one window of 512 words per field, all on one semaphore: they
  are issued one after another and waited for afterwards, and no wait but the last tells which of them has landed.
-/
module

public import proofs.«01_k».proof.Proof.Trip

@[expose] public section

noncomputable section

namespace Cert.Proof.Lookup

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev EC : UEmb Counters (MT nD τ sig (HIx 1) (Elt F) ℕ UU ℕ) := countersEmb

section Tile

variable (d : Dev nD) (L : grid0.Coords)
variable (tab : S100000.Idx → BitVec 32) (ix : S425984.Idx → BitVec 32) (g : S13312.Idx → BitVec 32)
variable (fo : S425984.Idx → BitVec 32)

/-- What one window's write adds to the semaphore. -/
abbrev NB : ℕ := (main_v1_scv : Ref sig .scVector).dmaCredit S512 .i32

abbrev gWinPts (f : ℕ) : sProp 𝕄 := (gV).view.loc (thr d L) ↦[gWin f]{fullShare} g
abbrev oWinPts (f : ℕ) (h : S425984.Idx → BitVec 32) : sProp 𝕄 := (oV).view.loc (thr d L) ↦[oWin (wid L) f]{fullShare} h

/-- The staging windows, as the kernel slices them. -/
theorem set_gWin (f : ℕ) (off : Fin 1 → ℕ) (ho : off = ![512 * f]) (inb : ∀ a, off a + S512.size a ≤ S13312.size a) :
    ((gV).slice (Rect.unit (s := S13312) off S512.size inb) (fun _ => rfl)).view.set = gWin f := by
  subst ho
  show ((View.whole cc0_scratch2).slice (Rect.unit (s := S13312) ![512 * f] S512.size inb)).set = gWin f
  rw [View.set_slice_whole]
  ext j
  rw [Rect.mem_set_unit]
  unfold gWin
  rw [Finset.mem_filter]
  refine ⟨fun h => ⟨Finset.mem_univ _, ?_⟩, fun h a => ?_⟩
  · have := h 0
    have h1 : 512 * f ≤ (j 0).val := this.1
    have h2 : (j 0).val < 512 * f + 512 := this.2
    omega
  · have h1 : (j 0).val / 512 = f := h.2
    match a with
    | 0 => exact ⟨show 512 * f ≤ (j 0).val by omega, show (j 0).val < 512 * f + 512 by omega⟩

/-- The output windows, as the kernel slices them. -/
theorem set_oWin (f : ℕ) (off : Fin 1 → ℕ) (ho : off = ![16384 * f + 8192 * (L 0).val + 512 * (L 1).val])
    (inb : ∀ a, off a + S512.size a ≤ S425984.size a) :
    ((oV).slice (Rect.unit (s := S425984) off S512.size inb) (fun _ => rfl)).view.set = oWin (wid L) f := by
  subst ho
  show ((View.whole main_v1_scv).slice (Rect.unit (s := S425984) _ S512.size inb)).set = oWin (wid L) f
  rw [View.set_slice_whole]
  ext j
  rw [Rect.mem_set_unit]
  unfold oWin wid
  rw [Finset.mem_filter]
  refine ⟨fun h => ⟨Finset.mem_univ _, ?_⟩, fun h a => ?_⟩
  · have := h 0
    have h1 : 16384 * f + 8192 * (L 0).val + 512 * (L 1).val ≤ (j 0).val := this.1
    have h2 : (j 0).val < 16384 * f + 8192 * (L 0).val + 512 * (L 1).val + 512 := this.2
    omega
  · have h1 : (j 0).val / 512 = 32 * f + (16 * (L 0).val + (L 1).val) := h.2
    match a with
    | 0 => exact ⟨show 16384 * f + 8192 * (L 0).val + 512 * (L 1).val ≤ (j 0).val by omega,
        show (j 0).val < 16384 * f + 8192 * (L 0).val + 512 * (L 1).val + 512 by omega⟩

/-- What window `f`'s write delivers: the window at the words wanted, the staging window back. -/
def Dlv (f : Fin 26) : sProp 𝕄 := iprop(oWinPts (F := F) d L f.val (want tab ix) ∗ gWinPts (F := F) d L g f.val)

instance Dlv_storable (f : Fin 26) : Storable (upEmb : UEmb _ 𝕄) (Dlv (F := F) d L tab ix g f) := by
  unfold Dlv; infer_instance

/-- The windows not yet issued from `f` on, and the batch with `f` issued. -/
def Outs (s9 : DmaSems sig S_) (f : ℕ) : sProp 𝕄 :=
  iprop((bigSep (Finset.univ.filter fun t : Fin 26 => f ≤ t.val) fun t => iprop(gWinPts (F := F) d L g t.val ∗ oWinPts (F := F) d L t.val fo))
    ∗ Transfers.Batch (EC (F := F)) (thr d L) (.dma s9.sem) (default : HIx 1) NB (Dlv (F := F) d L tab ix g) f 0)

/-- Every window issued, `u` waits of the twenty-six made. -/
def Drain (s9 : DmaSems sig S_) (O : CellTallies nD τ sig (HIx 1)) (W : Waits sig (HIx 1)) (u : ℕ) : sProp 𝕄 :=
  iprop(Transfers.Batch (EC (F := F)) (thr d L) (.dma s9.sem) (default : HIx 1) NB (Dlv (F := F) d L tab ix g) 26 (u * NB)
    ∗ ∃ W', ⌜∀ p ∈ W', p ∈ W ∨ p.2 = none⌝ ∗ owes (thr d L) O W')

theorem NB_pos : 0 < NB := ((oV).slice (Rect.unit (s := S425984) ![0] S512.size (by decide)) (fun _ => rfl)).view.dmaCredit_pos (by decide)

/-- One write issued. -/
theorem rule_issue {α : Type} {Q : α → sProp 𝕄} (hg : ∀ j, g j = word tab ix (13312 * wid L + unslot (j 0).val)) (s9 : DmaSems sig S_)
    (f : Fin 26) (off : Fin 1 → ℕ) (ho : off = ![512 * f.val]) (inb : ∀ a, off a + S512.size a ≤ S13312.size a)
    (off' : Fin 1 → ℕ) (ho' : off' = ![16384 * f.val + 8192 * (L 0).val + 512 * (L 1).val])
    (inb' : ∀ a, off' a + S512.size a ≤ S425984.size a) {hsrc hdst hsem}
    {k : PUnit → Prog (TpuEff nD τ sig (Elt F) Λ₀ (thr d L).2) α} :
    Outs (F := F) d L tab ix g fo s9 f.val
      ⊢ iprop((Outs (F := F) d L tab ix g fo s9 (f.val + 1) -∗ wp frame (wpE (defs₀ (F := F)) 𝒱₀ (thr d L) none) Set.univ (k ⟨⟩) Q)
        -∗ wp frame (wpE (defs₀ (F := F)) 𝒱₀ (thr d L) none) Set.univ
            (.op (.enqueueDma ((gV).slice (Rect.unit (s := S13312) off S512.size inb) (fun _ => rfl))
              (.here ((oV).slice (Rect.unit (s := S425984) off' S512.size inb') (fun _ => rfl))) (.dma s9.sem) hsrc hdst hsem) k) Q) := by
  have hsplit : (Finset.univ.filter fun t : Fin 26 => f.val ≤ t.val) = insert f (Finset.univ.filter fun t : Fin 26 => f.val + 1 ≤ t.val) := by
    ext t; simp only [Finset.mem_filter, Finset.mem_univ, true_and, Finset.mem_insert, Fin.ext_iff]; omega
  have hnot : f ∉ (Finset.univ.filter fun t : Fin 26 => f.val + 1 ≤ t.val) := by simp
  have hS := set_gWin f.val off ho inb
  have hS' := set_oWin L f.val off' ho' inb'
  unfold Outs
  rw [hsplit, SparseCore.bigSep_insert' hnot]
  iintro ⟨⟨⟨Hg, Ho⟩, Hrest⟩, HB⟩ Hk
  iapply (Transfers.wp_dmaBatch (EC (F := F)) 𝒱₀ (thr d L) none (defs := defs₀ (F := F)) (Q := Q) (n := 26)
      (src := (gV).slice (Rect.unit (s := S13312) off S512.size inb) (fun _ => rfl))
      (dst := (oV).slice (Rect.unit (s := S425984) off' S512.size inb') (fun _ => rfl))
      (q := fullShare) (fs := g) (fd := fo) (Sd := oWin (wid L) f.val) (D := Dlv (F := F) d L tab ix g) (j := f.val) (u := 0)
      (default : HIx 1) NB rfl (le_of_eq hS') f.isLt (Nat.zero_le _) ?hD) $$ [Hg Ho HB]
  case hD =>
    unfold Dlv
    rw [hS]
    refine BIClass.sep_mono (Entails.of_eq (pointsTo_congr fun i hi => ?_)) (Entails.refl _)
    have hi2 : (i 0).val / 512 = 32 * f.val + wid L := (Finset.mem_filter.mp hi).2
    have hi' : i ∈ ((oV).slice (Rect.unit (s := S425984) off' S512.size inb') (fun _ => rfl)).view.set := hS'.symm ▸ hi
    obtain ⟨x, -, rfl⟩ := Finset.mem_map.mp hi'
    have hx : (x 0).val < 512 := (x 0).isLt
    have hf : f.val < 26 := f.isLt
    have hw := wid_lt L
    refine (View.write_emb_of_mem (Val := Elt F) _ _ (Finset.mem_univ x)).trans ?_
    have e : ((((oV).slice (Rect.unit (s := S425984) off' S512.size inb') (fun _ => rfl)).view.emb x) 0).val
        = 512 * (32 * f.val + wid L) + (x 0).val := by
      have h0 : off' 0 = 16384 * f.val + 8192 * (L 0).val + 512 * (L 1).val := congrFun ho' 0
      show off' 0 + 1 * (x 0).val = 512 * (32 * f.val + (16 * (L 0).val + (L 1).val)) + (x 0).val
      omega
    have e' : ((((gV).slice (Rect.unit (s := S13312) off S512.size inb) (fun _ => rfl)).view.emb x) 0).val = 512 * f.val + (x 0).val := by
      have h0 : off 0 = 512 * f.val := congrFun ho 0
      show off 0 + 1 * (x 0).val = 512 * f.val + (x 0).val
      omega
    show g (((gV).slice (Rect.unit (s := S13312) off S512.size inb) (fun _ => rfl)).view.emb x)
      = want tab ix (((oV).slice (Rect.unit (s := S425984) off' S512.size inb') (fun _ => rfl)).view.emb x)
    rw [hg]
    unfold want unslot
    rw [e, e']
    congr 1
    omega
  · rw [hS]
    isplitl [Hg]; · iexact Hg
    isplitl [Ho]; · iexact Ho
    iexact HB
  iintro HB
  iapply Hk
  isplitl [Hrest]; · iexact Hrest
  iexact HB

/-- One wait that does not drain the batch. -/
theorem rule_wait {α : Type} {Q : α → sProp 𝕄} (s9 : DmaSems sig S_) (O : CellTallies nD τ sig (HIx 1)) (W : Waits sig (HIx 1))
    (u : ℕ) (hu : u + 1 < 26) (src : Memref sig .scVector .vmem S512 .i32)
    (off' : Fin 1 → ℕ) (inb' : ∀ a, off' a + S512.size a ≤ S425984.size a) {hsrc hdst}
    {k : PUnit → Prog (TpuEff nD τ sig (Elt F) Λ₀ (thr d L).2) α} :
    iprop(Transfers.MayWaits (thr d L) (default : HIx 1) O ∗ Drain (F := F) d L tab ix g s9 O W u)
      ⊢ iprop((Drain (F := F) d L tab ix g s9 O W (u + 1) -∗ wp frame (wpE (defs₀ (F := F)) 𝒱₀ (thr d L) none) Set.univ (k ⟨⟩) Q)
        -∗ wp frame (wpE (defs₀ (F := F)) 𝒱₀ (thr d L) none) Set.univ
            (.op (.waitDma2 s9.sem src ((oV).slice (Rect.unit (s := S425984) off' S512.size inb') (fun _ => rfl)) hsrc hdst) k) Q) := by
  unfold Drain
  iintro ⟨Hmw, HB, %W', %hW', HO⟩ Hk
  ihave Hmw := (Transfers.MayWaits.elim (SemLoc.dma s9.sem)) $$ Hmw
  iapply (Transfers.wp_waitBatchO (EC (F := F)) 𝒱₀ (thr d L) none (defs := defs₀ (F := F)) (Q := Q) (n := 26) (srcw := src)
      (dstw := (oV).slice (Rect.unit (s := S425984) off' S512.size inb') (fun _ => rfl))
      (default : HIx 1) (N := NB) rfl (D := Dlv (F := F) d L tab ix g) (u := u * NB) (O := O) (W := W')
      (by have := NB_pos; nlinarith)) $$ [HB HO Hmw]
  · isplitl [HB]; · iexact HB
    isplitl [HO]; · iexact HO
    iexact Hmw
  iintro ⟨HB, HO⟩
  iapply Hk
  rw [show u * NB + NB = (u + 1) * NB by ring]
  isplitl [HB]; · iexact HB
  iexists _
  isplitr
  rotate_left
  · iexact HO
  ipureintro
  intro p hp
  rcases Finset.mem_insert.mp hp with rfl | hp
  · exact Or.inr rfl
  · exact hW' p hp

/-- The last wait: every window has landed, the semaphore is back at zero. -/
theorem rule_waitLast {α : Type} {Q : α → sProp 𝕄} (s9 : DmaSems sig S_) (O : CellTallies nD τ sig (HIx 1)) (W : Waits sig (HIx 1))
    (src : Memref sig .scVector .vmem S512 .i32)
    (off' : Fin 1 → ℕ) (inb' : ∀ a, off' a + S512.size a ≤ S425984.size a) {hsrc hdst}
    {k : PUnit → Prog (TpuEff nD τ sig (Elt F) Λ₀ (thr d L).2) α} :
    iprop(Transfers.MayWaits (thr d L) (default : HIx 1) O ∗ Drain (F := F) d L tab ix g s9 O W 25)
      ⊢ iprop((iprop(bigSep Finset.univ (Dlv (F := F) d L tab ix g) ∗ semVal (thr d L, .dma s9.sem) 0
            ∗ ∃ W', ⌜∀ p ∈ W', p ∈ W ∨ p.2 = none⌝ ∗ owes (thr d L) O W')
          -∗ wp frame (wpE (defs₀ (F := F)) 𝒱₀ (thr d L) none) Set.univ (k ⟨⟩) Q)
        -∗ wp frame (wpE (defs₀ (F := F)) 𝒱₀ (thr d L) none) Set.univ
            (.op (.waitDma2 s9.sem src ((oV).slice (Rect.unit (s := S425984) off' S512.size inb') (fun _ => rfl)) hsrc hdst) k) Q) := by
  unfold Drain
  iintro ⟨Hmw, HB, %W', %hW', HO⟩ Hk
  ihave Hmw := (Transfers.MayWaits.elim (SemLoc.dma s9.sem)) $$ Hmw
  iapply (Transfers.wp_waitBatchLastO (EC (F := F)) 𝒱₀ (thr d L) none (defs := defs₀ (F := F)) (Q := Q) (n := 26) (srcw := src)
      (dstw := (oV).slice (Rect.unit (s := S425984) off' S512.size inb') (fun _ => rfl))
      (default : HIx 1) (N := NB) rfl NB_pos (D := Dlv (F := F) d L tab ix g) (u := 25 * NB) (O := O) (W := W')
      (by ring)) $$ [HB HO Hmw]
  · isplitl [HB]; · iexact HB
    isplitl [HO]; · iexact HO
    iexact Hmw
  iintro ⟨HD, Hs, HO⟩
  iapply Hk
  isplitl [HD]; · iexact HD
  isplitl [Hs]; · iexact Hs
  iexists _
  isplitr
  rotate_left
  · iexact HO
  ipureintro
  intro p hp
  rcases Finset.mem_insert.mp hp with rfl | hp
  · exact Or.inr rfl
  · exact hW' p hp

/-! ## The windows of a buffer, apart and together -/

/-- The staging buffer is its twenty-six windows. -/
theorem gPts_windows : (gPts (F := F) d L g : sProp 𝕄) = bigSep Finset.univ fun t : Fin 26 => gWinPts (F := F) d L g t.val := by
  have := pointsTo_biUnion (Val := Elt F) (Ix := HIx 1) (Name := ℕ) (U := UU) (Lvl := ℕ) (ℓ := (gV).view.loc (thr d L)) (q := fullShare) (f := g) (Finset.univ : Finset (Fin 26)) (fun t => gWin t.val)
    (fun a _ b _ hab => by
      refine Finset.disjoint_left.mpr fun j ha hb => hab (Fin.ext ?_)
      rw [← (Finset.mem_filter.mp ha).2, ← (Finset.mem_filter.mp hb).2])
  rw [← this]
  refine congrArg (fun s => ((gV).view.loc (thr d L) ↦[s]{fullShare} g : sProp 𝕄)) (Finset.eq_univ_of_forall fun j => ?_).symm
  have hj : (j 0).val < 13312 := (j 0).isLt
  exact Finset.mem_biUnion.mpr ⟨⟨(j 0).val / 512, by omega⟩, Finset.mem_univ _, Finset.mem_filter.mpr ⟨Finset.mem_univ _, rfl⟩⟩

/-- A tile's part of the output is its twenty-six windows. -/
theorem oPts_windows (h : S425984.Idx → BitVec 32) :
    ((oV).view.loc (thr d L) ↦[oSet (wid L)]{fullShare} h : sProp 𝕄)
      = bigSep Finset.univ fun t : Fin 26 => oWinPts (F := F) d L t.val h := by
  have := pointsTo_biUnion (Val := Elt F) (Ix := HIx 1) (Name := ℕ) (U := UU) (Lvl := ℕ) (ℓ := (oV).view.loc (thr d L)) (q := fullShare) (f := h) (Finset.univ : Finset (Fin 26)) (fun t => oWin (wid L) t.val)
    (fun a _ b _ hab => by
      refine Finset.disjoint_left.mpr fun j ha hb => hab (Fin.ext ?_)
      have h1 := (Finset.mem_filter.mp ha).2
      have h2 := (Finset.mem_filter.mp hb).2
      omega)
  rw [← this]
  have hw := wid_lt L
  refine congrArg (fun s => ((oV).view.loc (thr d L) ↦[s]{fullShare} h : sProp 𝕄)) ?_
  ext j
  have hj : (j 0).val < 425984 := (j 0).isLt
  unfold oSet oWin
  rw [Finset.mem_filter, Finset.mem_biUnion]
  constructor
  · rintro ⟨-, h1⟩
    exact ⟨⟨(j 0).val / 16384, by omega⟩, Finset.mem_univ _, Finset.mem_filter.mpr ⟨Finset.mem_univ _, by
      show (j 0).val / 512 = 32 * ((j 0).val / 16384) + wid L
      omega⟩⟩
  · rintro ⟨t, -, h1⟩
    have h2 := (Finset.mem_filter.mp h1).2
    exact ⟨Finset.mem_univ _, by omega⟩

/-- Before the first write: the staging buffer and the tile's part of the output, the semaphore at zero. -/
theorem outs_start (s9 : DmaSems sig S_) :
    iprop(gPts (F := F) d L g ∗ ((oV).view.loc (thr d L) ↦[oSet (wid L)]{fullShare} fo) ∗ semVal (thr d L, .dma s9.sem) 0)
      ⊢ |={Set.univ}=> Outs (F := F) d L tab ix g fo s9 0 := by
  iintro ⟨Hg, Ho, Hs⟩
  imod (Transfers.batch_alloc' (EC (F := F)) (thr d L) (default : HIx 1) NB (Dlv (F := F) d L tab ix g) (sm := .dma s9.sem)
    (E := Set.univ)) $$ Hs with HB
  imodintro
  unfold Outs
  isplitl [Hg Ho]
  · rw [show (Finset.univ.filter fun t : Fin 26 => 0 ≤ t.val) = Finset.univ from Finset.filter_true_of_mem fun _ _ => Nat.zero_le _,
      bigSep_sep']
    ihave Hg := (Entails.of_eq (gPts_windows (F := F) d L g)) $$ Hg
    ihave Ho := (Entails.of_eq (oPts_windows (F := F) d L fo)) $$ Ho
    isplitl [Hg]; · iexact Hg
    iexact Ho
  · iexact HB

/-- After the last issue nothing is left to issue. -/
theorem outs_end (s9 : DmaSems sig S_) (O : CellTallies nD τ sig (HIx 1)) (W W' : Waits sig (HIx 1)) (hW : ∀ p ∈ W', p ∈ W ∨ p.2 = none) :
    iprop(Outs (F := F) d L tab ix g fo s9 26 ∗ owes (thr d L) O W') ⊢ Drain (F := F) d L tab ix g s9 O W 0 := by
  unfold Outs Drain
  iintro ⟨⟨-, HB⟩, HO⟩
  rw [Nat.zero_mul]
  isplitl [HB]; · iexact HB
  iexists W'
  isplitr
  · ipureintro; exact hW
  iexact HO

/-- Every window landed: the tile's part of the output at the words wanted, the staging buffer whole. -/
theorem delivered :
    (bigSep Finset.univ (Dlv (F := F) d L tab ix g) : sProp 𝕄)
      ⊢ iprop(((oV).view.loc (thr d L) ↦[oSet (wid L)]{fullShare} want tab ix) ∗ gPts (F := F) d L g) := by
  unfold Dlv
  rw [bigSep_sep', oPts_windows, gPts_windows]

end Tile
end Cert.Proof.Lookup
-- ==== Proof.Tile.lean ====
/-
  A tile's whole task: the table and the tile's indices are copied in, every index is looked up and its word stored at
  its slot, and the staging buffer is copied out, one window per field.
-/
module

public import proofs.«01_k».proof.Proof.Out

@[expose] public section

noncomputable section

namespace Cert.Proof.Lookup

open Cert.KernelIdeal Cert.KernelIdeal.Gen
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tile

variable (d : Dev nD) (L : grid0.Coords)

/-- The tile's indices, as the kernel slices them. -/
theorem set_iWin (inb : ∀ a, k0_off1 L a + S13312.size a ≤ S425984.size a) :
    ((iV).slice (Rect.unit (s := S425984) (k0_off1 L) S13312.size inb) (fun _ => rfl)).view.set = iSet (wid L) := by
  have h0 : k0_off1 L 0 = 212992 * (L 0).val + 13312 * (L 1).val := congrFun (k0_off1_eq L) 0
  show ((View.whole main_v0_scv).slice (Rect.unit (s := S425984) (k0_off1 L) S13312.size inb)).set = iSet (wid L)
  rw [View.set_slice_whole]
  ext j
  rw [Rect.mem_set_unit]
  unfold iSet wid
  rw [Finset.mem_filter]
  refine ⟨fun h => ⟨Finset.mem_univ _, ?_⟩, fun h a => ?_⟩
  · have := h 0
    have h1 : k0_off1 L 0 ≤ (j 0).val := this.1
    have h2 : (j 0).val < k0_off1 L 0 + 13312 := this.2
    omega
  · have h1 : (j 0).val / 13312 = 16 * (L 0).val + (L 1).val := h.2
    match a with
    | 0 => exact ⟨show k0_off1 L 0 ≤ (j 0).val by omega, show (j 0).val < k0_off1 L 0 + 13312 by omega⟩

/-- The indices, landed: position `k` of the tile's buffer holds index `13312 · w + k`. -/
theorem landed_idx (ix : S425984.Idx → BitVec 32) (fb : S13312.Idx → BitVec 32) (inb : ∀ a, k0_off1 L a + S13312.size a ≤ S425984.size a)
    (k : ℕ) (hk : k < 13312) :
    ((bV).view.write (Elt F) fb (((iV).slice (Rect.unit (s := S425984) (k0_off1 L) S13312.size inb) (fun _ => rfl)).view.read (Elt F) ix) Finset.univ
        : S13312.Idx → BitVec 32) (sIx k)
      = ix (iIx (13312 * wid L + k)) := by
  have h0 : k0_off1 L 0 = 212992 * (L 0).val + 13312 * (L 1).val := congrFun (k0_off1_eq L) 0
  have hw := wid_lt L
  refine (congrFun (View.write_whole_univ (Val := Elt F) _ _ _) (sIx k)).trans ?_
  show ix _ = ix _
  congr 1
  funext a; match a with
  | 0 => exact Fin.ext (by
      rw [iIx_val (by omega)]
      show k0_off1 L 0 + 1 * (sIx k 0).val = 13312 * (16 * (L 0).val + (L 1).val) + k
      rw [sIx_val hk]; omega)

/-- The table, landed: the tile's copy is the table. -/
theorem landed_tab (tab fa : S100000.Idx → BitVec 32) :
    ((aV).view.write (Elt F) fa ((tV).view.read (Elt F) tab) Finset.univ : S100000.Idx → BitVec 32) = tab :=
  View.write_whole_univ (Val := Elt F) _ _ _

/-! ## What a tile is handed -/

abbrev cTab : GSem nD τ sig := (thr d L, .dma cc0_scratch3.sem)
abbrev cOut : GSem nD τ sig := (thr d L, .dma cc0_scratch4.sem)
abbrev cIdx : GSem nD τ sig := (thr d L, .dma cc0_scoped0.sem)

/-- The three semaphores the task uses are among the tile's own. -/
theorem ownSems0_tile :
    (ownSems0 (thr d L) : sProp 𝕄)
      = iprop(semVal (cTab d L) 0 ∗ semVal (cOut d L) 0 ∗ semVal (cIdx d L) 0
          ∗ bigSep ((((ownCells (thr d L)).erase (cTab d L)).erase (cOut d L)).erase (cIdx d L)) fun g => semVal g 0) := by
  have m1 : cTab d L ∈ ownCells (thr d L) := mem_ownCells.mpr ⟨rfl, by
    show (SemLoc.dma cc0_scratch3.sem : SemLoc sig).isScoped .scVector = true; decide⟩
  have m2 : cOut d L ∈ ownCells (thr d L) := mem_ownCells.mpr ⟨rfl, by
    show (SemLoc.dma cc0_scratch4.sem : SemLoc sig).isScoped .scVector = true; decide⟩
  have m3 : cIdx d L ∈ ownCells (thr d L) := mem_ownCells.mpr ⟨rfl, by
    show (SemLoc.dma cc0_scoped0.sem : SemLoc sig).isScoped .scVector = true; decide⟩
  have n21 : cOut d L ≠ cTab d L := fun e => absurd (congrArg Prod.snd e)
    (show (SemLoc.dma cc0_scratch4.sem : SemLoc sig) ≠ .dma cc0_scratch3.sem by decide)
  have n31 : cIdx d L ≠ cTab d L := fun e => absurd (congrArg Prod.snd e)
    (show (SemLoc.dma cc0_scoped0.sem : SemLoc sig) ≠ .dma cc0_scratch3.sem by decide)
  have n32 : cIdx d L ≠ cOut d L := fun e => absurd (congrArg Prod.snd e)
    (show (SemLoc.dma cc0_scoped0.sem : SemLoc sig) ≠ .dma cc0_scratch4.sem by decide)
  unfold SparseCore.Cfg.ownSems0
  rw [SparseCore.bigSep_erase' m1, SparseCore.bigSep_erase' (Finset.mem_erase.mpr ⟨n21, m2⟩),
    SparseCore.bigSep_erase' (Finset.mem_erase.mpr ⟨n32, Finset.mem_erase.mpr ⟨n31, m3⟩⟩)]

abbrev rA : DevRef τ sig := (Proc.scVector (cV L) (jV L)).devRef cc0_scratch0
abbrev rB : DevRef τ sig := (Proc.scVector (cV L) (jV L)).devRef cc0_scratch1
abbrev rG : DevRef τ sig := (Proc.scVector (cV L) (jV L)).devRef cc0_scratch2

/-- The three scratch buffers are among the tile's own, at some contents. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (rA L)).erase (rB L)).erase (rG L))
              fun b => iprop(∃ f, ((d, b) : Loc nD τ sig) ↦{fullShare} f)) := by
  have m1 := SparseCore.Cfg.mem_ownRefs_of_owner (p := Proc.scVector (cV L) (jV L)) (b := rA L) rfl
  have m2 := SparseCore.Cfg.mem_ownRefs_of_owner (p := Proc.scVector (cV L) (jV L)) (b := rB L) rfl
  have m3 := SparseCore.Cfg.mem_ownRefs_of_owner (p := Proc.scVector (cV L) (jV L)) (b := rG L) rfl
  have n21 : rB L ≠ rA L := fun e => absurd (Proc.devRef_injective _ e) (show (cc0_scratch1 : Ref sig .scVector) ≠ cc0_scratch0 by decide)
  have n31 : rG L ≠ rA L := fun e => absurd (Proc.devRef_injective _ e) (show (cc0_scratch2 : Ref sig .scVector) ≠ cc0_scratch0 by decide)
  have n32 : rG L ≠ rB L := fun e => absurd (Proc.devRef_injective _ e) (show (cc0_scratch2 : Ref sig .scVector) ≠ cc0_scratch1 by decide)
  unfold SparseCore.Cfg.ownBufs
  refine (SparseCore.bigSep_erase' m1).trans ?_
  rw [SparseCore.bigSep_erase' (Finset.mem_erase.mpr ⟨n21, m2⟩),
    SparseCore.bigSep_erase' (Finset.mem_erase.mpr ⟨n32, Finset.mem_erase.mpr ⟨n31, m3⟩⟩)]

/-- A write issued, the window named by its number. -/
theorem issue {α : Type} {Q : α → sProp 𝕄} (tab : S100000.Idx → BitVec 32) (ix : S425984.Idx → BitVec 32) (g : S13312.Idx → BitVec 32)
    (fo : S425984.Idx → BitVec 32) (hg : ∀ j, g j = word tab ix (13312 * wid L + unslot (j 0).val)) (s9 : DmaSems sig S_)
    (n n' : ℕ) (hn : n < 26) (hn' : n' = n + 1) (off : Fin 1 → ℕ) (ho : off = ![512 * n]) (inb : ∀ a, off a + S512.size a ≤ S13312.size a)
    (off' : Fin 1 → ℕ) (ho' : off' = ![16384 * n + 8192 * (L 0).val + 512 * (L 1).val])
    (inb' : ∀ a, off' a + S512.size a ≤ S425984.size a) {hsrc hdst hsem}
    {k : PUnit → Prog (TpuEff nD τ sig (Elt F) Λ₀ (thr d L).2) α} :
    Outs (F := F) d L tab ix g fo s9 n
      ⊢ iprop((Outs (F := F) d L tab ix g fo s9 n' -∗ wp frame (wpE (defs₀ (F := F)) 𝒱₀ (thr d L) none) Set.univ (k ⟨⟩) Q)
        -∗ wp frame (wpE (defs₀ (F := F)) 𝒱₀ (thr d L) none) Set.univ
            (.op (.enqueueDma ((gV).slice (Rect.unit (s := S13312) off S512.size inb) (fun _ => rfl))
              (.here ((oV).slice (Rect.unit (s := S425984) off' S512.size inb') (fun _ => rfl))) (.dma s9.sem) hsrc hdst hsem) k) Q) := by
  subst hn'
  exact rule_issue (F := F) d L tab ix g fo hg s9 ⟨n, hn⟩ off ho inb off' ho' inb'

/-! ## The task -/

variable (tab : S100000.Idx → BitVec 32) (ix : S425984.Idx → BitVec 32)

/-- What a tile is handed and gives back: a share of the table, its indices, its part of the output. -/
abbrev tilePts (q : PosShare TreeShare) (h : S425984.Idx → BitVec 32) : sProp 𝕄 :=
  iprop((tLoc d ↦[(Finset.univ : Finset S100000.Idx)]{q} tab) ∗ (iLoc d ↦[iSet (wid L)]{fullShare} ix) ∗ (oLoc d ↦[oSet (wid L)]{fullShare} h))

set_option maxHeartbeats 4000000 in
/-- From its indices, its share of the table and its part of the output at any contents, the task leaves that part at
    the words wanted. -/
theorem tile_body (hF : (K (F := F)).Facts) (hix : ∀ j, (ix j).toNat < 100000) (q : PosShare TreeShare) (fo : S425984.Idx → BitVec 32)
    (O : CellTallies nD τ sig (HIx 1)) (W : Waits sig (HIx 1)) (hO : ∀ g, O g none = 0) :
    iprop(levAts (K (F := F)).L (K (F := F)).lev ∗ emp ∗ tilePts (F := F) d L tab ix q fo
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            aV (Memref.isWhole_whole _) bV (Memref.isWhole_whole _) gV (Memref.isWhole_whole _) cc0_scratch3 cc0_scratch4 cc0_scoped0)
          fun _ => iprop(tilePts (F := F) d L tab ix q (want tab ix)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part4_eq_skeleton, k0_part5_eq_skeleton, k0_part6_eq_skeleton, k0_part7_eq_skeleton, k0_part8_eq_skeleton,
    k0_part9_eq_skeleton, k0_part10_eq_skeleton, k0_part11_eq_skeleton]
  unfold k0_part4_skel k0_part5_skel k0_part6_skel k0_part7_skel k0_part8_skel k0_part9_skel k0_part10_skel k0_part11_skel
  simp only [Prog.lift, Prog.bind_op, Prog.bind_ret, bind_assoc, pure_bind]
  rw [(K (F := F)).scopedBufs_V hF d (cV L) (jV L), SparseCore.Cfg.scopedSems0_V (Val := Elt F) d (cV L) (jV L), ownSems0_tile, ownBufs_tile]
  unfold tilePts
  iintro ⟨#Hlv, -, ⟨Ht, Hi, Ho⟩, ⟨⟨%fa, Ha⟩, ⟨%fb, Hb⟩, ⟨%fg, Hg⟩, Hbufs⟩, ⟨HsT, HsO, HsI, Hsems⟩, HO⟩
  ihave #Hmw := (show levAts (K (F := F)).L (K (F := F)).lev ⊢ Transfers.MayWaits (thr d L) (default : HIx 1) O from
    (K (F := F)).mayWaits_none (thr := thr d L) hO) $$ Hlv
  have htset : (tV).view.set = (Finset.univ : Finset S100000.Idx) := View.set_whole _
  have hiset := set_iWin L (k0_off1_inb L)
  -- the table's copy is issued
  iapply (Transfers.wp_dmaLocal (EC (F := F)) 𝒱₀ (thr d L) none (defs := defs₀ (F := F)) (src := tV) (dst := aV) (q := q) (fs := tab)
      (Sd := Finset.univ) (fd := fa) (default : HIx 1) (aV).view.dmaCredit rfl ((aV).view.dmaCredit_pos (by decide)) (Finset.subset_univ _)) $$ [Ht Ha HsT]
  · rw [htset]
    isplitl [Ht]; · iexact Ht
    isplitl [Ha]; · iexact Ha
    iexact HsT
  iintro HfT
  -- the indices' copy is issued
  iapply (Transfers.wp_dmaLocal (EC (F := F)) 𝒱₀ (thr d L) none (defs := defs₀ (F := F))
      (src := (iV).slice (Rect.unit (s := S425984) (k0_off1 L) S13312.size (k0_off1_inb L)) (fun _ => rfl)) (dst := bV) (q := fullShare) (fs := ix)
      (Sd := Finset.univ) (fd := fb) (default : HIx 1) (bV).view.dmaCredit rfl ((bV).view.dmaCredit_pos (by decide)) (Finset.subset_univ _)) $$ [Hi Hb HsI]
  · rw [hiset]
    isplitl [Hi]; · iexact Hi
    isplitl [Hb]; · iexact Hb
    iexact HsI
  iintro HfI
  -- both are waited for
  iapply (Transfers.wp_waitLocalO (EC (F := F)) 𝒱₀ (thr d L) none (defs := defs₀ (F := F)) (default : HIx 1) (rfl : (bV).view.dmaCredit = _)) $$ [HfI HO]
  · isplitl [HfI]; · iexact HfI
    isplitl [HO]; · iexact HO
    iapply (Transfers.MayWaits.elim (SemLoc.dma cc0_scoped0.sem)) $$ Hmw
  iintro ⟨⟨Hb, Hi⟩, HsI, HO⟩
  iapply (Transfers.wp_waitLocalO (EC (F := F)) 𝒱₀ (thr d L) none (defs := defs₀ (F := F)) (default : HIx 1) (rfl : (aV).view.dmaCredit = _)) $$ [HfT HO]
  · isplitl [HfT]; · iexact HfT
    isplitl [HO]; · iexact HO
    iapply (Transfers.MayWaits.elim (SemLoc.dma cc0_scratch3.sem)) $$ Hmw
  iintro ⟨⟨Ha, Ht⟩, HsT, HO⟩
  -- the loop
  have hb := fun k hk => landed_idx (F := F) L ix fb (k0_off1_inb L) k hk
  generalize hfb : ((bV).view.write (Elt F) fb (ReadAs.same.apply
    (((iV).slice (Rect.unit (s := S425984) (k0_off1 L) S13312.size (k0_off1_inb L)) (fun _ => rfl)).view.read (Elt F) ix)) Finset.univ) = fb'
  replace hb : ∀ k, k < 13312 → fb' (sIx k) = ix (iIx (13312 * wid L + k)) := fun k hk => hfb ▸ hb k hk
  iapply (Scf.wp_for_bind frame (wpE (defs₀ (F := F)) 𝒱₀ (thr d L) none) Set.univ _ _ _ k0_t1_ok _ _ (inv (F := F) d L tab ix fb')
    (fun t u => trip (F := F) d L tab ix hix fb' hb cc0_scratch3 cc0_scratch4 cc0_scoped0 t u)) $$ [Ha Hb Hg]
  · unfold inv
    isplitl [Ha]
    · iapply (Entails.of_eq (congrArg (fun f => (aPts (F := F) d L f : sProp 𝕄)) (landed_tab (F := F) tab fa))) $$ Ha
    isplitl [Hb]; · iexact Hb
    iexists fg
    isplitr
    rotate_left
    · iexact Hg
    ipureintro
    exact fun g hg => absurd hg (Nat.not_lt_zero g)
  iintro %_ Hinv
  unfold inv
  icases Hinv with ⟨Ha, Hb, %fg', %hfg, Hg⟩
  have hg : ∀ j, fg' j = word tab ix (13312 * wid L + unslot (j 0).val) := fun j => Upto.full (by
    have e : 64 * k0_t1_loop.trips = 13312 := by rw [trips_eq]
    exact e ▸ hfg) j
  -- the windows go out
  imod (outs_start (F := F) d L tab ix fg' fo cc0_scratch4) $$ [Hg Ho HsO] with HB
  · isplitl [Hg]; · iexact Hg
    isplitl [Ho]; · iexact Ho
    iexact HsO
  iapply (issue (F := F) d L tab ix fg' fo hg cc0_scratch4 0 1 (by decide) rfl ![0] (by rfl) inb_S13312_S512_0 (k0_off6 L 0#32) (k0_off6_eq L 0) (k0_off6_inb L 0)) $$ HB; iintro HB
  iapply (issue (F := F) d L tab ix fg' fo hg cc0_scratch4 1 2 (by decide) rfl ![512] (by rfl) inb_S13312_S512_512 (k0_off6 L 16384#32) (k0_off6_eq L 1) (k0_off6_inb L 1)) $$ HB; iintro HB
  iapply (issue (F := F) d L tab ix fg' fo hg cc0_scratch4 2 3 (by decide) rfl ![1024] (by rfl) inb_S13312_S512_1024 (k0_off6 L 32768#32) (k0_off6_eq L 2) (k0_off6_inb L 2)) $$ HB; iintro HB
  iapply (issue (F := F) d L tab ix fg' fo hg cc0_scratch4 3 4 (by decide) rfl ![1536] (by rfl) inb_S13312_S512_1536 (k0_off6 L 49152#32) (k0_off6_eq L 3) (k0_off6_inb L 3)) $$ HB; iintro HB
  iapply (issue (F := F) d L tab ix fg' fo hg cc0_scratch4 4 5 (by decide) rfl ![2048] (by rfl) inb_S13312_S512_2048 (k0_off6 L 65536#32) (k0_off6_eq L 4) (k0_off6_inb L 4)) $$ HB; iintro HB
  iapply (issue (F := F) d L tab ix fg' fo hg cc0_scratch4 5 6 (by decide) rfl ![2560] (by rfl) inb_S13312_S512_2560 (k0_off6 L 81920#32) (k0_off6_eq L 5) (k0_off6_inb L 5)) $$ HB; iintro HB
  iapply (issue (F := F) d L tab ix fg' fo hg cc0_scratch4 6 7 (by decide) rfl ![3072] (by rfl) inb_S13312_S512_3072 (k0_off6 L 98304#32) (k0_off6_eq L 6) (k0_off6_inb L 6)) $$ HB; iintro HB
  iapply (issue (F := F) d L tab ix fg' fo hg cc0_scratch4 7 8 (by decide) rfl ![3584] (by rfl) inb_S13312_S512_3584 (k0_off6 L 114688#32) (k0_off6_eq L 7) (k0_off6_inb L 7)) $$ HB; iintro HB
  iapply (issue (F := F) d L tab ix fg' fo hg cc0_scratch4 8 9 (by decide) rfl ![4096] (by rfl) inb_S13312_S512_4096 (k0_off6 L 131072#32) (k0_off6_eq L 8) (k0_off6_inb L 8)) $$ HB; iintro HB
  iapply (issue (F := F) d L tab ix fg' fo hg cc0_scratch4 9 10 (by decide) rfl ![4608] (by rfl) inb_S13312_S512_4608 (k0_off6 L 147456#32) (k0_off6_eq L 9) (k0_off6_inb L 9)) $$ HB; iintro HB
  iapply (issue (F := F) d L tab ix fg' fo hg cc0_scratch4 10 11 (by decide) rfl ![5120] (by rfl) inb_S13312_S512_5120 (k0_off6 L 163840#32) (k0_off6_eq L 10) (k0_off6_inb L 10)) $$ HB; iintro HB
  iapply (issue (F := F) d L tab ix fg' fo hg cc0_scratch4 11 12 (by decide) rfl ![5632] (by rfl) inb_S13312_S512_5632 (k0_off6 L 180224#32) (k0_off6_eq L 11) (k0_off6_inb L 11)) $$ HB; iintro HB
  iapply (issue (F := F) d L tab ix fg' fo hg cc0_scratch4 12 13 (by decide) rfl ![6144] (by rfl) inb_S13312_S512_6144 (k0_off6 L 196608#32) (k0_off6_eq L 12) (k0_off6_inb L 12)) $$ HB; iintro HB
  iapply (issue (F := F) d L tab ix fg' fo hg cc0_scratch4 13 14 (by decide) rfl ![6656] (by rfl) inb_S13312_S512_6656 (k0_off6 L 212992#32) (k0_off6_eq L 13) (k0_off6_inb L 13)) $$ HB; iintro HB
  iapply (issue (F := F) d L tab ix fg' fo hg cc0_scratch4 14 15 (by decide) rfl ![7168] (by rfl) inb_S13312_S512_7168 (k0_off6 L 229376#32) (k0_off6_eq L 14) (k0_off6_inb L 14)) $$ HB; iintro HB
  iapply (issue (F := F) d L tab ix fg' fo hg cc0_scratch4 15 16 (by decide) rfl ![7680] (by rfl) inb_S13312_S512_7680 (k0_off6 L 245760#32) (k0_off6_eq L 15) (k0_off6_inb L 15)) $$ HB; iintro HB
  iapply (issue (F := F) d L tab ix fg' fo hg cc0_scratch4 16 17 (by decide) rfl ![8192] (by rfl) inb_S13312_S512_8192 (k0_off6 L 262144#32) (k0_off6_eq L 16) (k0_off6_inb L 16)) $$ HB; iintro HB
  iapply (issue (F := F) d L tab ix fg' fo hg cc0_scratch4 17 18 (by decide) rfl ![8704] (by rfl) inb_S13312_S512_8704 (k0_off6 L 278528#32) (k0_off6_eq L 17) (k0_off6_inb L 17)) $$ HB; iintro HB
  iapply (issue (F := F) d L tab ix fg' fo hg cc0_scratch4 18 19 (by decide) rfl ![9216] (by rfl) inb_S13312_S512_9216 (k0_off6 L 294912#32) (k0_off6_eq L 18) (k0_off6_inb L 18)) $$ HB; iintro HB
  iapply (issue (F := F) d L tab ix fg' fo hg cc0_scratch4 19 20 (by decide) rfl ![9728] (by rfl) inb_S13312_S512_9728 (k0_off6 L 311296#32) (k0_off6_eq L 19) (k0_off6_inb L 19)) $$ HB; iintro HB
  iapply (issue (F := F) d L tab ix fg' fo hg cc0_scratch4 20 21 (by decide) rfl ![10240] (by rfl) inb_S13312_S512_10240 (k0_off6 L 327680#32) (k0_off6_eq L 20) (k0_off6_inb L 20)) $$ HB; iintro HB
  iapply (issue (F := F) d L tab ix fg' fo hg cc0_scratch4 21 22 (by decide) rfl ![10752] (by rfl) inb_S13312_S512_10752 (k0_off6 L 344064#32) (k0_off6_eq L 21) (k0_off6_inb L 21)) $$ HB; iintro HB
  iapply (issue (F := F) d L tab ix fg' fo hg cc0_scratch4 22 23 (by decide) rfl ![11264] (by rfl) inb_S13312_S512_11264 (k0_off6 L 360448#32) (k0_off6_eq L 22) (k0_off6_inb L 22)) $$ HB; iintro HB
  iapply (issue (F := F) d L tab ix fg' fo hg cc0_scratch4 23 24 (by decide) rfl ![11776] (by rfl) inb_S13312_S512_11776 (k0_off6 L 376832#32) (k0_off6_eq L 23) (k0_off6_inb L 23)) $$ HB; iintro HB
  iapply (issue (F := F) d L tab ix fg' fo hg cc0_scratch4 24 25 (by decide) rfl ![12288] (by rfl) inb_S13312_S512_12288 (k0_off6 L 393216#32) (k0_off6_eq L 24) (k0_off6_inb L 24)) $$ HB; iintro HB
  iapply (issue (F := F) d L tab ix fg' fo hg cc0_scratch4 25 26 (by decide) rfl ![12800] (by rfl) inb_S13312_S512_12800 (k0_off6 L 409600#32) (k0_off6_eq L 25) (k0_off6_inb L 25)) $$ HB; iintro HB
  ihave HB := (outs_end (F := F) d L tab ix fg' fo cc0_scratch4 O W
    (insert (SemLoc.dma cc0_scratch3.sem, (default : HIx 1)) (insert (SemLoc.dma cc0_scoped0.sem, (default : HIx 1)) W)) ?hWW) $$ [HB HO]
  case hWW =>
    intro p hp
    rcases Finset.mem_insert.mp hp with hp | hp; · exact .inr (hp ▸ rfl)
    rcases Finset.mem_insert.mp hp with hp | hp; · exact .inr (hp ▸ rfl)
    exact .inl hp
  · isplitl [HB]; · iexact HB
    iexact HO
  iapply (rule_wait (F := F) d L tab ix fg' cc0_scratch4 O W 0 (by decide) _ _ _) $$ [HB]
  · isplitr; · iexact Hmw
    iexact HB
  iintro HB
  iapply (rule_wait (F := F) d L tab ix fg' cc0_scratch4 O W 1 (by decide) _ _ _) $$ [HB]
  · isplitr; · iexact Hmw
    iexact HB
  iintro HB
  iapply (rule_wait (F := F) d L tab ix fg' cc0_scratch4 O W 2 (by decide) _ _ _) $$ [HB]
  · isplitr; · iexact Hmw
    iexact HB
  iintro HB
  iapply (rule_wait (F := F) d L tab ix fg' cc0_scratch4 O W 3 (by decide) _ _ _) $$ [HB]
  · isplitr; · iexact Hmw
    iexact HB
  iintro HB
  iapply (rule_wait (F := F) d L tab ix fg' cc0_scratch4 O W 4 (by decide) _ _ _) $$ [HB]
  · isplitr; · iexact Hmw
    iexact HB
  iintro HB
  iapply (rule_wait (F := F) d L tab ix fg' cc0_scratch4 O W 5 (by decide) _ _ _) $$ [HB]
  · isplitr; · iexact Hmw
    iexact HB
  iintro HB
  iapply (rule_wait (F := F) d L tab ix fg' cc0_scratch4 O W 6 (by decide) _ _ _) $$ [HB]
  · isplitr; · iexact Hmw
    iexact HB
  iintro HB
  iapply (rule_wait (F := F) d L tab ix fg' cc0_scratch4 O W 7 (by decide) _ _ _) $$ [HB]
  · isplitr; · iexact Hmw
    iexact HB
  iintro HB
  iapply (rule_wait (F := F) d L tab ix fg' cc0_scratch4 O W 8 (by decide) _ _ _) $$ [HB]
  · isplitr; · iexact Hmw
    iexact HB
  iintro HB
  iapply (rule_wait (F := F) d L tab ix fg' cc0_scratch4 O W 9 (by decide) _ _ _) $$ [HB]
  · isplitr; · iexact Hmw
    iexact HB
  iintro HB
  iapply (rule_wait (F := F) d L tab ix fg' cc0_scratch4 O W 10 (by decide) _ _ _) $$ [HB]
  · isplitr; · iexact Hmw
    iexact HB
  iintro HB
  iapply (rule_wait (F := F) d L tab ix fg' cc0_scratch4 O W 11 (by decide) _ _ _) $$ [HB]
  · isplitr; · iexact Hmw
    iexact HB
  iintro HB
  iapply (rule_wait (F := F) d L tab ix fg' cc0_scratch4 O W 12 (by decide) _ _ _) $$ [HB]
  · isplitr; · iexact Hmw
    iexact HB
  iintro HB
  iapply (rule_wait (F := F) d L tab ix fg' cc0_scratch4 O W 13 (by decide) _ _ _) $$ [HB]
  · isplitr; · iexact Hmw
    iexact HB
  iintro HB
  iapply (rule_wait (F := F) d L tab ix fg' cc0_scratch4 O W 14 (by decide) _ _ _) $$ [HB]
  · isplitr; · iexact Hmw
    iexact HB
  iintro HB
  iapply (rule_wait (F := F) d L tab ix fg' cc0_scratch4 O W 15 (by decide) _ _ _) $$ [HB]
  · isplitr; · iexact Hmw
    iexact HB
  iintro HB
  iapply (rule_wait (F := F) d L tab ix fg' cc0_scratch4 O W 16 (by decide) _ _ _) $$ [HB]
  · isplitr; · iexact Hmw
    iexact HB
  iintro HB
  iapply (rule_wait (F := F) d L tab ix fg' cc0_scratch4 O W 17 (by decide) _ _ _) $$ [HB]
  · isplitr; · iexact Hmw
    iexact HB
  iintro HB
  iapply (rule_wait (F := F) d L tab ix fg' cc0_scratch4 O W 18 (by decide) _ _ _) $$ [HB]
  · isplitr; · iexact Hmw
    iexact HB
  iintro HB
  iapply (rule_wait (F := F) d L tab ix fg' cc0_scratch4 O W 19 (by decide) _ _ _) $$ [HB]
  · isplitr; · iexact Hmw
    iexact HB
  iintro HB
  iapply (rule_wait (F := F) d L tab ix fg' cc0_scratch4 O W 20 (by decide) _ _ _) $$ [HB]
  · isplitr; · iexact Hmw
    iexact HB
  iintro HB
  iapply (rule_wait (F := F) d L tab ix fg' cc0_scratch4 O W 21 (by decide) _ _ _) $$ [HB]
  · isplitr; · iexact Hmw
    iexact HB
  iintro HB
  iapply (rule_wait (F := F) d L tab ix fg' cc0_scratch4 O W 22 (by decide) _ _ _) $$ [HB]
  · isplitr; · iexact Hmw
    iexact HB
  iintro HB
  iapply (rule_wait (F := F) d L tab ix fg' cc0_scratch4 O W 23 (by decide) _ _ _) $$ [HB]
  · isplitr; · iexact Hmw
    iexact HB
  iintro HB
  iapply (rule_wait (F := F) d L tab ix fg' cc0_scratch4 O W 24 (by decide) _ _ _) $$ [HB]
  · isplitr; · iexact Hmw
    iexact HB
  iintro HB
  iapply (rule_waitLast (F := F) d L tab ix fg' cc0_scratch4 O W _ _ _) $$ [HB]
  · isplitr; · iexact Hmw
    iexact HB
  iintro ⟨HD, HsO, %W', %hW', HO⟩
  ihave HD := (delivered (F := F) d L tab ix fg') $$ HD
  icases HD with ⟨Ho, Hg⟩
  rw [show (Pure.pure PUnit.unit : Prog (TpuEff nD τ sig (Elt F) Λ₀ (thr d L).2) Unit) = .ret ⟨⟩ from rfl, wp_ret]
  imodintro
  isplitl [Ht Hi Ho]
  · isplitl [Ht]; · rw [htset]; iexact Ht
    isplitl [Hi]; · rw [hiset]; iexact Hi
    iexact Ho
  isplitl [Ha Hb Hg Hbufs]
  · isplitl [Ha]; · iexists _; iexact Ha
    isplitl [Hb]; · iexists _; iexact Hb
    isplitl [Hg]; · iexists _; iexact Hg
    iexact Hbufs
  isplitl [HsT HsO HsI Hsems]
  · isplitl [HsT]; · iexact HsT
    isplitl [HsO]; · iexact HsO
    isplitl [HsI]; · iexact HsI
    iexact Hsems
  iexists W'
  isplitr
  · ipureintro; exact hW'
  iexact HO

end Tile
end Cert.Proof.Lookup
-- ==== Proof.Launch.lean ====
/-
  The launch: what the call's handshakes carry, how a SparseCore's operands split among its sixteen tiles and join
  again, and `@main` on the TensorCore around the call.
-/
module

public import proofs.«01_k».proof.Proof.Tile

@[expose] public section

noncomputable section

namespace Cert.Proof.Lookup

open Cert.KernelIdeal Cert.KernelIdeal.Gen
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch finds -/

/-- The table and the flattened index array of device `d`. -/
abbrev tabOf (d : Dev nD) : S100000.Idx → BitVec 32 := m (tLoc d)
abbrev flatOf (d : Dev nD) : S425984.Idx → BitVec 32 :=
  shapeCast S425984 (show S16384x26.Idx → BitVec 32 from m (xLoc d)) shapeCasts_S16384x26_S425984

/-- What the proof asks of the launch memory: every index is below the table's length. -/
def PreOK : Prop := ∀ (d : Dev nD) (j : S16384x26.Idx), (show BitVec 32 from m (xLoc d) j).toNat < 100000

theorem flat_lt (hpre : PreOK m) (d : Dev nD) (j : S425984.Idx) : (flatOf m d j).toNat < 100000 := hpre d _

/-! ## The operands of a SparseCore and of a tile -/

/-- The indices SparseCore `c` serves, the words it writes. -/
def iCore (c : ℕ) : Finset S425984.Idx := Finset.univ.filter fun j => (j 0).val / 212992 = c
def oCore (c : ℕ) : Finset S425984.Idx := Finset.univ.filter fun j => (j 0).val % 16384 / 8192 = c

abbrev qCore (c : Fin 2) : PosShare TreeShare := Transfers.shareTok fullShare 2 c
abbrev qTile (c : Fin 2) (i : Fin 16) : PosShare TreeShare := Transfers.shareTok (qCore c) 16 i

def coordsV (c : Fin (grid0.bound 0)) (s : Fin (grid0.bound 1)) : grid0.Coords :=
  fun | 0 => c | 1 => s | ⟨_ + 2, h⟩ => absurd h (Nat.not_lt.2 (Nat.le_add_left _ _))

theorem wid_coordsV (c : Fin 2) (i : Fin 16) : wid (coordsV c i) = 16 * c.val + i.val := rfl

abbrev corePts (d : Dev nD) (tab : S100000.Idx → BitVec 32) (ix : S425984.Idx → BitVec 32) (c : Fin 2) (h : S425984.Idx → BitVec 32) : sProp 𝕄 :=
  iprop((tLoc d ↦[(Finset.univ : Finset S100000.Idx)]{qCore c} tab) ∗ (iLoc d ↦[iCore c.val]{fullShare} ix) ∗ (oLoc d ↦[oCore c.val]{fullShare} h))

abbrev taskPts (d : Dev nD) (tab : S100000.Idx → BitVec 32) (ix : S425984.Idx → BitVec 32) (c : Fin 2) (i : Fin 16) (h : S425984.Idx → BitVec 32) : sProp 𝕄 :=
  tilePts (F := F) d (coordsV c i) tab ix (qTile c i) h

/-- The call hands each SparseCore a share of the table, its indices and its part of the output; each SparseCore hands
    its tiles theirs; all come back with the output at the words wanted. -/
def P : (K (F := F)).Pay (nD := nD) (Val := Elt F) (Name := ℕ) (U := UU) where
  st := fun q d c => match q with | 0 => corePts (F := F) d (tabOf m d) (flatOf m d) c (m (oLoc d))
  dn := fun q d c => match q with | 0 => corePts (F := F) d (tabOf m d) (flatOf m d) c (want (tabOf m d) (flatOf m d))
  go := fun q d c i => match q with | 0 => taskPts (F := F) d (tabOf m d) (flatOf m d) c i (m (oLoc d))
  td := fun q d c i => match q with | 0 => taskPts (F := F) d (tabOf m d) (flatOf m d) c i (want (tabOf m d) (flatOf m d))
  x := fun _ _ => iprop(emp)

instance P_storable : (P (F := F) m).IsStorable where
  st q d c := match q with
    | 0 => (inferInstance : BI.Storable (upEmb : UEmb _ 𝕄) (corePts (F := F) d (tabOf m d) (flatOf m d) c (m (oLoc d))))
  dn q d c := match q with
    | 0 => (inferInstance : BI.Storable (upEmb : UEmb _ 𝕄) (corePts (F := F) d (tabOf m d) (flatOf m d) c (want (tabOf m d) (flatOf m d))))
  go q d c i := match q with
    | 0 => (inferInstance : BI.Storable (upEmb : UEmb _ 𝕄) (taskPts (F := F) d (tabOf m d) (flatOf m d) c i (m (oLoc d))))
  td q d c i := match q with
    | 0 => (inferInstance : BI.Storable (upEmb : UEmb _ 𝕄) (taskPts (F := F) d (tabOf m d) (flatOf m d) c i (want (tabOf m d) (flatOf m d))))

/-! ## The task's obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          aV (Memref.isWhole_whole _) bV (Memref.isWhole_whole _) gV (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Every tile's task meets what the call asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) (tabOf m d) (flatOf m d) facts (flat_lt m hpre d) _ (m (oLoc d)) O W hO).trans
    (wp_mono frame _ _ fun _ => obl_post)

/-! ## Splitting and joining -/

/-- A device's indices are its SparseCores'. -/
theorem iPts_cores (d : Dev nD) (ix : S425984.Idx → BitVec 32) :
    (iLoc d ↦[(Finset.univ : Finset S425984.Idx)]{fullShare} ix : sProp 𝕄) = bigSep Finset.univ fun c : Fin 2 => iLoc d ↦[iCore c.val]{fullShare} ix := by
  have := pointsTo_biUnion (Val := Elt F) (Ix := HIx 1) (Name := ℕ) (U := UU) (Lvl := ℕ) (ℓ := iLoc d) (q := fullShare) (f := ix) (Finset.univ : Finset (Fin 2)) (fun t => iCore t.val)
    (fun a _ b _ hab => by
      refine Finset.disjoint_left.mpr fun j ha hb => hab (Fin.ext ?_)
      rw [← (Finset.mem_filter.mp ha).2, ← (Finset.mem_filter.mp hb).2])
  rw [← this]
  refine congrArg (fun s => (iLoc d ↦[s]{fullShare} ix : sProp 𝕄)) (Finset.eq_univ_of_forall fun j => ?_).symm
  have hj : (j 0).val < 425984 := (j 0).isLt
  exact Finset.mem_biUnion.mpr ⟨⟨(j 0).val / 212992, by omega⟩, Finset.mem_univ _, Finset.mem_filter.mpr ⟨Finset.mem_univ _, rfl⟩⟩

/-- A device's output is its SparseCores'. -/
theorem oPts_cores (d : Dev nD) (h : S425984.Idx → BitVec 32) :
    (oLoc d ↦[(Finset.univ : Finset S425984.Idx)]{fullShare} h : sProp 𝕄) = bigSep Finset.univ fun c : Fin 2 => oLoc d ↦[oCore c.val]{fullShare} h := by
  have := pointsTo_biUnion (Val := Elt F) (Ix := HIx 1) (Name := ℕ) (U := UU) (Lvl := ℕ) (ℓ := oLoc d) (q := fullShare) (f := h) (Finset.univ : Finset (Fin 2)) (fun t => oCore t.val)
    (fun a _ b _ hab => by
      refine Finset.disjoint_left.mpr fun j ha hb => hab (Fin.ext ?_)
      rw [← (Finset.mem_filter.mp ha).2, ← (Finset.mem_filter.mp hb).2])
  rw [← this]
  refine congrArg (fun s => (oLoc d ↦[s]{fullShare} h : sProp 𝕄)) (Finset.eq_univ_of_forall fun j => ?_).symm
  have hj : (j 0).val < 425984 := (j 0).isLt
  exact Finset.mem_biUnion.mpr ⟨⟨(j 0).val % 16384 / 8192, by omega⟩, Finset.mem_univ _, Finset.mem_filter.mpr ⟨Finset.mem_univ _, rfl⟩⟩

/-- A SparseCore's indices are its tiles'. -/
theorem iPts_tiles (d : Dev nD) (c : Fin 2) (ix : S425984.Idx → BitVec 32) :
    (iLoc d ↦[iCore c.val]{fullShare} ix : sProp 𝕄) = bigSep Finset.univ fun i : Fin 16 => iLoc d ↦[iSet (wid (coordsV c i))]{fullShare} ix := by
  have := pointsTo_biUnion (Val := Elt F) (Ix := HIx 1) (Name := ℕ) (U := UU) (Lvl := ℕ) (ℓ := iLoc d) (q := fullShare) (f := ix) (Finset.univ : Finset (Fin 16))
    (fun t => iSet (wid (coordsV c t)))
    (fun a _ b _ hab => by
      refine Finset.disjoint_left.mpr fun j ha hb => hab (Fin.ext ?_)
      have h1 : (j 0).val / 13312 = 16 * c.val + a.val := (Finset.mem_filter.mp ha).2
      have h2 : (j 0).val / 13312 = 16 * c.val + b.val := (Finset.mem_filter.mp hb).2
      omega)
  rw [← this]
  refine congrArg (fun s => (iLoc d ↦[s]{fullShare} ix : sProp 𝕄)) ?_
  ext j
  unfold iCore iSet
  rw [Finset.mem_filter, Finset.mem_biUnion]
  constructor
  · rintro ⟨-, h1⟩
    exact ⟨⟨(j 0).val / 13312 - 16 * c.val, by omega⟩, Finset.mem_univ _, Finset.mem_filter.mpr ⟨Finset.mem_univ _, by
      show (j 0).val / 13312 = 16 * c.val + ((j 0).val / 13312 - 16 * c.val)
      omega⟩⟩
  · rintro ⟨t, -, h1⟩
    have h2 : (j 0).val / 13312 = 16 * c.val + t.val := (Finset.mem_filter.mp h1).2
    have := t.isLt
    exact ⟨Finset.mem_univ _, by omega⟩

/-- A SparseCore's part of the output is its tiles'. -/
theorem oPts_tiles (d : Dev nD) (c : Fin 2) (h : S425984.Idx → BitVec 32) :
    (oLoc d ↦[oCore c.val]{fullShare} h : sProp 𝕄) = bigSep Finset.univ fun i : Fin 16 => oLoc d ↦[oSet (wid (coordsV c i))]{fullShare} h := by
  have := pointsTo_biUnion (Val := Elt F) (Ix := HIx 1) (Name := ℕ) (U := UU) (Lvl := ℕ) (ℓ := oLoc d) (q := fullShare) (f := h) (Finset.univ : Finset (Fin 16))
    (fun t => oSet (wid (coordsV c t)))
    (fun a _ b _ hab => by
      refine Finset.disjoint_left.mpr fun j ha hb => hab (Fin.ext ?_)
      have h1 : (j 0).val % 16384 / 512 = 16 * c.val + a.val := (Finset.mem_filter.mp ha).2
      have h2 : (j 0).val % 16384 / 512 = 16 * c.val + b.val := (Finset.mem_filter.mp hb).2
      omega)
  rw [← this]
  refine congrArg (fun s => (oLoc d ↦[s]{fullShare} h : sProp 𝕄)) ?_
  ext j
  unfold oCore oSet
  rw [Finset.mem_filter, Finset.mem_biUnion]
  constructor
  · rintro ⟨-, h1⟩
    exact ⟨⟨(j 0).val % 16384 / 512 - 16 * c.val, by omega⟩, Finset.mem_univ _, Finset.mem_filter.mpr ⟨Finset.mem_univ _, by
      show (j 0).val % 16384 / 512 = 16 * c.val + ((j 0).val % 16384 / 512 - 16 * c.val)
      omega⟩⟩
  · rintro ⟨t, -, h1⟩
    have h2 : (j 0).val % 16384 / 512 = 16 * c.val + t.val := (Finset.mem_filter.mp h1).2
    have := t.isLt
    exact ⟨Finset.mem_univ _, by omega⟩

/-- A SparseCore's operands split among its tiles, and its results join from theirs. -/
theorem vecSplit : (K (F := F)).VecSplit' (P m) 0 := by
  intro d c
  show corePts (F := F) d (tabOf m d) (flatOf m d) c (m (oLoc d)) ⊢ |={Set.univ}=> iprop(
      (bigSep Finset.univ fun i : Fin 16 => taskPts (F := F) d (tabOf m d) (flatOf m d) c i (m (oLoc d)))
      ∗ ((bigSep Finset.univ fun i : Fin 16 => taskPts (F := F) d (tabOf m d) (flatOf m d) c i (want (tabOf m d) (flatOf m d)))
          -∗ corePts (F := F) d (tabOf m d) (flatOf m d) c (want (tabOf m d) (flatOf m d))))
  rw [bigSep_sep', bigSep_sep', bigSep_sep', bigSep_sep', ← iPts_tiles, ← oPts_tiles, ← oPts_tiles]
  iintro ⟨Ht, Hi, Ho⟩
  ihave Ht := (Transfers.pointsTo_toks_split (qCore c) 16) $$ Ht
  icases Ht with ⟨Htd, Ht⟩
  imodintro
  isplitl [Ht Hi Ho]
  · isplitl [Ht]; · iexact Ht
    isplitl [Hi]; · iexact Hi
    iexact Ho
  iintro ⟨Ht, Hi, Ho⟩
  isplitl [Htd Ht]
  · iapply (Transfers.pointsTo_toks_join (qCore c) 16)
    isplitl [Htd]; · iexact Htd
    iexact Ht
  isplitl [Hi]; · iexact Hi
  iexact Ho

end Cert.Proof.Lookup
-- ==== Proof.Main.lean ====
/-
  `@main` on the TensorCore: the indices flattened, the SparseCore call, the gathered words unpacked and transposed; and
  the program's run from any launch memory whose indices are in range.
-/
module

public import proofs.«01_k».proof.Proof.Launch
public import Idealize.ShloMosaic.Lib.Pipeline.Frame

@[expose] public section

noncomputable section

namespace Cert.Proof.Lookup

open Cert.KernelIdeal Cert.KernelIdeal.Gen
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Before the call: the index array, flattened. -/
abbrev opFlat : HloOp τ sig (Elt F) := StableHlo.reshape main_arg0 main_v0 (rfl : (.i32 : EltTy) = .i32) shapeCasts_S16384x26_S425984
/-- After it: each word's two halves as numbers, widened, the axes split and swapped. -/
abbrev opBits : HloOp τ sig (Elt F) := StableHlo.unary main_v1 main_v2 ((fun x => bitcastToFloat .bf16 (Host.bitcastConvertNarrow S425984x2 16 x splits_S425984_w32_S425984x2_w16)) : (⟨S425984, .i32⟩ : BufTy).Contents (Elt F) → (⟨S425984x2, .bf16⟩ : BufTy).Contents (Elt F))
abbrev opWide : HloOp τ sig (Elt F) := StableHlo.unary main_v2 main_v3 ((extf .f32 · bitsLt_bf16_f32) : (⟨S425984x2, .bf16⟩ : BufTy).Contents (Elt F) → (⟨S425984x2, .f32⟩ : BufTy).Contents (Elt F))
abbrev opSplit : HloOp τ sig (Elt F) := StableHlo.reshape main_v3 main_v4 (rfl : (.f32 : EltTy) = .f32) shapeCasts_S425984x2_S26x16384x2
abbrev opSwap : HloOp τ sig (Elt F) := StableHlo.unary main_v4 main_v5 ((transpose S16384x26x2 [1, 0, 2] · transposes_S26x16384x2_S16384x26x2_1_0_2) : (⟨S26x16384x2, .f32⟩ : BufTy).Contents (Elt F) → (⟨S16384x26x2, .f32⟩ : BufTy).Contents (Elt F))

/-- The four operations after the call. -/
abbrev tailOps : List (HloOp τ sig (Elt F)) := [opBits, opWide, opSplit, opSwap]

theorem main_eq (d : Dev nD) :
    main (F := F) d = (hlo rfl opFlat (fun _ => .ret (⟨⟩ : PUnit)) >>= fun _ => sc.run d 0 >>= fun _ => StableHlo.seq tailOps >>= fun u => Pure.pure u) := by
  simp only [StableHlo.seq, bind_assoc, pure_bind]
  rfl

/-! ## A device's buffers, from the launch to the end -/

abbrev rTab : DevRef τ sig := Proc.devRef .tc main_arg1
abbrev rFlat : DevRef τ sig := Proc.devRef .tc main_v0
abbrev rOut : DevRef τ sig := Proc.devRef .tc main_v1

/-- At launch, with the indices flattened, with the words gathered, and at the end. -/
abbrev V0 (d : Dev nD) : Valuation τ sig (Elt F) := StableHlo.launchContents m d
abbrev V1 (d : Dev nD) : Valuation τ sig (Elt F) := (opFlat (F := F)).result (V0 m d)
def V2 (d : Dev nD) : Valuation τ sig (Elt F) := Function.update (V1 m d) rOut (want (tabOf m d) (flatOf m d))
def V3 (d : Dev nD) : Valuation τ sig (Elt F) := StableHlo.after tailOps (V2 m d)

theorem V1_tab (d : Dev nD) : V1 m d rTab = tabOf m d := StableHlo.reshape_result_ne _ _ _ _ _ _ _ (by decide)
theorem V1_out (d : Dev nD) : V1 m d rOut = m (oLoc d) := StableHlo.reshape_result_ne _ _ _ _ _ _ _ (by decide)
theorem V1_flat (d : Dev nD) : V1 m d rFlat = flatOf m d := StableHlo.reshape_result _ _ _ _ _ _ _

theorem V2_out (d : Dev nD) : V2 m d rOut = want (tabOf m d) (flatOf m d) := Function.update_self _ _ _
theorem V2_ne (d : Dev nD) {b : DevRef τ sig} (h : b ≠ rOut) : V2 m d b = V1 m d b := Function.update_of_ne h _ _

/-- The three buffers the call uses. -/
abbrev callRefs : Finset (DevRef τ sig) := {rTab, rFlat, rOut}

theorem rTab_ne : rTab ≠ rFlat := StableHlo.devRef_ne_of_ne (by decide)
theorem rTab_ne' : rTab ≠ rOut := StableHlo.devRef_ne_of_ne (by decide)
theorem rFlat_ne : rFlat ≠ rOut := StableHlo.devRef_ne_of_ne (by decide)

theorem callRefs_sub : callRefs ⊆ Pipeline.ucRefs τ sig := by
  intro b hb
  have : b = rTab ∨ b = rFlat ∨ b = rOut := by simpa [callRefs] using hb
  refine Finset.mem_filter.mpr ?_
  rcases this with rfl | rfl | rfl
  · exact ⟨StableHlo.devRef_mem_tcRefs _, by decide⟩
  · exact ⟨StableHlo.devRef_mem_tcRefs _, by decide⟩
  · exact ⟨StableHlo.devRef_mem_tcRefs _, by decide⟩

/-- The call's buffers, one by one. -/
theorem held_call (d : Dev nD) (V : Valuation τ sig (Elt F)) :
    (StableHlo.held (SparseCore.T d) callRefs V : sProp 𝕄)
      = iprop((tLoc d ↦{fullShare} V rTab) ∗ (iLoc d ↦{fullShare} V rFlat) ∗ (oLoc d ↦{fullShare} V rOut)) := by
  unfold StableHlo.held callRefs
  rw [SparseCore.bigSep_insert' (by simp [rTab_ne, rTab_ne']), SparseCore.bigSep_insert' (by simp [rFlat_ne]), bigSep_singleton]

/-! ## The call's payloads, at the device -/

/-- What the call takes, and what is kept back: the table's remaining share. -/
theorem call_split (d : Dev nD) (h : S425984.Idx → BitVec 32) :
    iprop((tLoc d ↦{fullShare} tabOf m d) ∗ (iLoc d ↦{fullShare} flatOf m d) ∗ (oLoc d ↦{fullShare} h))
      ⊢ (iprop((tLoc d ↦{Transfers.shareDrop fullShare 2} tabOf m d)
          ∗ bigSep Finset.univ fun c : Fin 2 => corePts (F := F) d (tabOf m d) (flatOf m d) c h) : sProp 𝕄) := by
  rw [bigSep_sep', bigSep_sep', ← iPts_cores, ← oPts_cores]
  iintro ⟨Ht, Hi, Ho⟩
  ihave Ht := (Transfers.pointsTo_toks_split fullShare 2) $$ Ht
  icases Ht with ⟨Htd, Ht⟩
  isplitl [Htd]; · iexact Htd
  isplitl [Ht]; · iexact Ht
  isplitl [Hi]; · iexact Hi
  iexact Ho

/-- What it gives back, joined. -/
theorem call_join (d : Dev nD) (h : S425984.Idx → BitVec 32) :
    (iprop((tLoc d ↦{Transfers.shareDrop fullShare 2} tabOf m d)
          ∗ bigSep Finset.univ fun c : Fin 2 => corePts (F := F) d (tabOf m d) (flatOf m d) c h) : sProp 𝕄)
      ⊢ iprop((tLoc d ↦{fullShare} tabOf m d) ∗ (iLoc d ↦{fullShare} flatOf m d) ∗ (oLoc d ↦{fullShare} h)) := by
  rw [bigSep_sep', bigSep_sep', ← iPts_cores, ← oPts_cores]
  iintro ⟨Htd, Ht, Hi, Ho⟩
  isplitl [Htd Ht]
  · iapply (Transfers.pointsTo_toks_join fullShare 2)
    isplitl [Htd]; · iexact Htd
    iexact Ht
  isplitl [Hi]; · iexact Hi
  iexact Ho

/-! ## The launch's ghost state -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## `@main` -/

/-- What a device ends holding: all its arrays, at their final contents. -/
abbrev FIN (d : Dev nD) : sProp 𝕄 := StableHlo.held (SparseCore.T d) (Pipeline.ucRefs τ sig) (V3 m d)

theorem tail_sub : ∀ op ∈ (tailOps : List (HloOp τ sig (Elt F))), op.bufs ⊆ Pipeline.ucRefs τ sig := by
  intro op h
  refine Pipeline.sub_ucRefs op ?_
  simp only [tailOps, List.mem_cons, List.not_mem_nil, or_false] at h
  rcases h with rfl | rfl | rfl | rfl
  · exact StableHlo.unary_bufs_sub _ _ _ _ _
  · exact StableHlo.unary_bufs_sub _ _ _ _ _
  · exact StableHlo.reshape_bufs_sub _ _ _ _ _ _
  · exact StableHlo.unary_bufs_sub _ _ _ _ _

theorem tail_fresh : ∀ op ∈ (tailOps : List (HloOp τ sig (Elt F))), op.fresh = ∅ := by
  intro op h
  simp only [tailOps, List.mem_cons, List.not_mem_nil, or_false] at h
  rcases h with rfl | rfl | rfl | rfl <;> rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d)
    from Pipeline.unscopedBufs_held d (V0 m d), main_eq, wp_bind]
  iintro ⟨#Hctx, Hst, ⟨Hb, Hh, Hts, -⟩, -⟩
  iapply (StableHlo.wp_hlo_within 𝒱 (SparseCore.T d) none Set.univ (op := opFlat) (V := V0 m d)
    (Pipeline.sub_ucRefs _ (StableHlo.reshape_bufs_sub _ _ _ _ _ _)) rfl) $$ [Hb Hh]
  · isplitl [Hb]; · iexact Hb
    iexact Hh
  iintro ⟨Hb, Hh⟩
  rw [wp_ret]
  imodintro
  rw [wp_bind]
  ihave Hh := (Entails.of_eq (StableHlo.held_sub_split (SparseCore.T d) callRefs_sub (V1 m d))) $$ Hh
  icases Hh with ⟨Hc, Hrest⟩
  ihave Hc := (Entails.of_eq (held_call (F := F) d (V1 m d))) $$ Hc
  rw [V1_tab, V1_flat]
  ihave Hc := (call_split (F := F) m d (V1 m d rOut)) $$ Hc
  icases Hc with ⟨Htd, Hc⟩
  iapply ((K (F := F)).wp_run (D (F := F)) 𝒱 (EH := EH) (P := P m) κ d 0) $$ [Hst Hc Hb Hts Htd Hrest]
  isplitr; · iexact Hctx
  isplitl [Hst]; · iexact Hst
  isplitl [Hc]
  · rw [V1_out]
    iexact Hc
  iintro ⟨Hst, Hdn⟩
  ihave Hc := (call_join (F := F) m d (want (tabOf m d) (flatOf m d))) $$ [Htd Hdn]
  · isplitl [Htd]; · iexact Htd
    iexact Hdn
  ihave Hh := (show iprop(iprop((tLoc d ↦{fullShare} tabOf m d) ∗ (iLoc d ↦{fullShare} flatOf m d) ∗ (oLoc d ↦{fullShare} want (tabOf m d) (flatOf m d)))
      ∗ StableHlo.held (SparseCore.T d) (Pipeline.ucRefs τ sig \ callRefs) (V1 m d))
      ⊢ (StableHlo.held (SparseCore.T d) (Pipeline.ucRefs τ sig) (V2 m d) : sProp 𝕄) from by
    rw [StableHlo.held_sub_split (SparseCore.T d) callRefs_sub (V2 m d), held_call (F := F) d (V2 m d), V2_out, V2_ne m d rTab_ne', V2_ne m d rFlat_ne, V1_tab, V1_flat,
      StableHlo.held_congr (SparseCore.T d) (V := V2 m d) (V' := V1 m d) fun b hb => V2_ne m d fun e =>
        (Finset.mem_sdiff.mp hb).2 (by rw [e]; simp [callRefs])]) $$ [Hc Hrest]
  · isplitl [Hc]; · iexact Hc
    iexact Hrest
  iapply (StableHlo.wp_seq 𝒱 none Set.univ d (Pipeline.ucRefs τ sig) (fun u => Pure.pure u) tailOps tail_sub tail_fresh (V2 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-- A final state has every array of the device at its final contents. -/
def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  unfold FIN StableHlo.held
  iintro ⟨H, HSI⟩
  iapply (SI_pointsTo_bufs_agree (qs := fun _ => fullShare) (Pipeline.ucRefs τ sig)) $$ [HSI H]
  isplitl [HSI]; · iexact HSI
  iexact H

/-! ## The run -/

/-- The result: the gathered words, each as two numbers, by row of the index array. -/
def result (tab : S100000.Idx → BitVec 32) (flat : S425984.Idx → BitVec 32) : FVec F S16384x26x2 .f32 :=
  transpose S16384x26x2 [1, 0, 2] (shapeCast S26x16384x2 (extf .f32 (bitcastToFloat (F := F) .bf16
    (Host.bitcastConvertNarrow S425984x2 16 (want tab flat) splits_S425984_w32_S425984x2_w16)) bitsLt_bf16_f32) shapeCasts_S425984x2_S26x16384x2)
    transposes_S26x16384x2_S16384x26x2_1_0_2

theorem V3_arg0 (d : Dev nD) : V3 m d (Proc.devRef .tc main_arg0) = m (xLoc d) := by
  unfold V3
  after_results
  rw [V2_ne m d (StableHlo.devRef_ne_of_ne (by decide))]
  exact StableHlo.reshape_result_ne _ _ _ _ _ _ _ (by decide)

theorem V3_arg1 (d : Dev nD) : V3 m d (Proc.devRef .tc main_arg1) = m (tLoc d) := by
  unfold V3
  after_results
  rw [V2_ne m d (StableHlo.devRef_ne_of_ne (by decide))]
  exact StableHlo.reshape_result_ne _ _ _ _ _ _ _ (by decide)

theorem V3_v5 (d : Dev nD) : V3 m d (Proc.devRef .tc main_v5) = result (F := F) (tabOf m d) (flatOf m d) := by
  unfold V3
  after_results
  rw [V2_out]
  rfl

def QC : PUnit × MemSt nD τ sig (Elt F) → Prop := fun r =>
  (∀ d : Dev nD, r.2.mem ((d.tc : Thread nD τ).loc main_v5) = result (F := F) (tabOf m d) (flatOf m d)
    ∧ r.2.mem (xLoc d) = m (xLoc d) ∧ r.2.mem (tLoc d) = m (tLoc d)) ∧ r.2.sem = fun _ => 0

/-- The program runs to its end: the result as stated, the arguments unchanged, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h hz => ⟨fun d => ⟨(h d _ (Finset.mem_filter.mpr ⟨StableHlo.devRef_mem_tcRefs main_v5, by decide⟩)).trans (V3_v5 m d),
      (h d _ (Finset.mem_filter.mpr ⟨StableHlo.devRef_mem_tcRefs main_arg0, by decide⟩)).trans (V3_arg0 m d),
      (h d _ (Finset.mem_filter.mpr ⟨StableHlo.devRef_mem_tcRefs main_arg1, by decide⟩)).trans (V3_arg1 m d)⟩, hz⟩)

end Cert.Proof.Lookup
-- ==== Proof.Ref.lean ====
/-
  What the reference computes, read at an index, and the same of the kernel's result: both are one half of the table's
  word at the index array's entry, as a number. And the precondition read back: every index is below the table's length.
-/
module

public import proofs.«01_k».proof.Proof.Main
public import proofs.«01_k».proof.Defs
public import proofs.«01_k».proof.Proof.Gen.ReferenceIdeal.Run
public import proofs.«01_k».proof.Proof.Gen.Pre_in_range
public import Idealize.ShloMosaic.Lib.ValueIdxCore
public import Idealize.ShloMosaic.Lib.Pipeline.Value
public import Idealize.ShloMosaic.Lib.ReduceAll
public import Idealize.ShloMosaic.Lib.BitcastConvert

@[expose] public section

noncomputable section

namespace Cert.Proof.Lookup

open Idealize.ShloMosaic Idealize.ShloMosaic.ValueIdx

/-! ## The precondition -/

/-- A word that is at least 0 and less than 100000, read signed, is less than 100000. -/
theorem word_lt (v : BitVec 32) (h0 : (0#32).toInt ≤ v.toInt) (h1 : v.toInt < (100000#32).toInt) : v.toNat < 100000 := by
  simp only [BitVec.toInt_eq_toNat_cond, BitVec.toNat_ofNat, Nat.reducePow, Nat.reduceMod] at h0 h1
  omega

/-- And back: such a word, read signed, is its own value. -/
theorem word_toInt (v : BitVec 32) (h : v.toNat < 100000) : v.toInt = v.toNat := by
  simp only [BitVec.toInt_eq_toNat_cond, Nat.reducePow]
  omega

instance : Subsingleton (Cert.Pre_in_range.S_).Idx := ⟨fun a b => funext fun k => k.elim0⟩

/-- Where the precondition holds of an index array, every index is below the table's length. -/
theorem idx_lt {F : FTy → Type} [FloatOps F] (x : IVec Cert.Pre_in_range.S16384x26 32) (t : IVec Cert.Pre_in_range.S100000 32)
    (h : Cert.Pre_in_range.fn (F := F) x t = fun _ => 1#1) (j : (Cert.Pre_in_range.S16384x26).Idx) : (x j).toNat < 100000 := by
  have e := Host.reduce_andi_all _ _ _ _ _ (congrFun h ix0) j
  have e' := IntOp.andi_eq_one.1 e
  exact word_lt _ (IntOp.cmpi_sge.1 e'.1) (IntOp.cmpi_slt.1 e'.2)

/-! ## One entry -/

/-- Half `h` of a word (the low half first), as a bf16 number widened to f32. -/
def half {F : FTy → Type} [FloatOps F] (w : BitVec 32) (h : ℕ) : F .f32 :=
  FloatOps.extf .f32 Cert.KernelIdeal.Gen.bitsLt_bf16_f32 (FloatOps.ofBits .bf16 (w.extractLsb' (h * 16) 16))

/-- The kernel's result at `(b, f, h)`: half `h` of the table's word at index `26 b + f` of the flattened indices. -/
theorem result_apply {F : FTy → Type} [FloatOps F] (tab : Cert.KernelIdeal.S100000.Idx → BitVec 32) (flat : Cert.KernelIdeal.S425984.Idx → BitVec 32)
    (b : Fin 16384) (f : Fin 26) (h : Fin 2) :
    result (F := F) tab flat (ix3 b f h) = half (word tab flat (b.val * 26 + f.val)) h.val := by
  unfold result
  refine (transpose_apply _ _ _ _ (ix3 f b h) (fun a => match a with | ⟨0, _⟩ => rfl | ⟨1, _⟩ => rfl | ⟨2, _⟩ => rfl)).trans ?_
  have hp : f.val * 16384 + b.val < 425984 := by omega
  refine (shapeCast_apply _ _ _ (ix2 ⟨f.val * 16384 + b.val, hp⟩ h) (by
    rw [Shape.rowMajor_val_two, Shape.rowMajor_val_three]; rfl)).trans ?_
  show FloatOps.extf .f32 _ (FloatOps.ofBits .bf16 (Host.bitcastConvertNarrow _ 16 (want tab flat) _ _)) = _
  rw [Host.bitcastConvertNarrow_apply]
  unfold half
  have e : want tab flat (Shape.SplitsWords.drop Cert.KernelIdeal.Gen.splits_S425984_w32_S425984x2_w16 (ix2 ⟨f.val * 16384 + b.val, hp⟩ h))
      = word tab flat (b.val * 26 + f.val) := by
    show word tab flat ((f.val * 16384 + b.val) % 16384 * 26 + (f.val * 16384 + b.val) / 16384) = _
    congr 1
    have := b.isLt
    omega
  rw [e]
  rfl

/-! ## The reference -/

section Reference

open Cert.ReferenceIdeal Cert.ReferenceIdeal.Gen

/-- The row gather read at `(b, f, h)`: column `h` of the row that the start index `(b, f)` names. -/
theorem gather_apply {α : Type} (x : S100000x2.Idx → α) (idx : IVec S16384x26x1 32) (b : Fin 16384) (f : Fin 26) (h : Fin 2)
    (hi : (idx (ix3 b f 0)).toNat < 100000) :
    Host.gather gather_S100000x2_S16384x26x1_S16384x26x2_2_0_n_n_0_2_12 x idx (ix3 b f h) = x (ix2 ⟨(idx (ix3 b f 0)).toNat, hi⟩ h) := by
  unfold Host.gather
  congr 1
  funext a
  refine Fin.ext ?_
  generalize hD : gather_S100000x2_S16384x26x1_S16384x26x2_2_0_n_n_0_2_12 = D
  show D.start (ix3 b f h) idx a + D.batchCoord (ix3 b f h) a + D.offCoord (ix3 b f h) a = _
  subst hD
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap gather_S100000x2_S16384x26x1_S16384x26x2_2_0_n_n_0_2_12 from List.mem_singleton.mpr rfl)]
    have hs : ∀ c, GatherDims.siIdx gather_S100000x2_S16384x26x1_S16384x26x2_2_0_n_n_0_2_12 (ix3 b f h) c = ix3 b f 0 := by
      intro c
      funext k
      refine Fin.ext ?_
      match k with
      | ⟨0, _⟩ => rfl
      | ⟨1, _⟩ => rfl
      | ⟨2, _⟩ => exact Nat.lt_one_iff.1 c.isLt
    rw [hs, word_toInt _ hi]
    show min (idx (ix3 b f 0)).toNat 99999 = (idx (ix3 b f 0)).toNat
    omega
  · unfold GatherDims.start
    rw [dif_neg (show (1 : Fin 2) ∉ GatherDims.startIndexMap gather_S100000x2_S16384x26x1_S16384x26x2_2_0_n_n_0_2_12 from fun h => absurd (List.mem_singleton.mp h) (by decide)), Nat.zero_add]
    unfold GatherDims.offCoord
    rw [dif_pos (show (1 : Fin 2) ∈ GatherDims.sKept gather_S100000x2_S16384x26x1_S16384x26x2_2_0_n_n_0_2_12 from
      (GatherDims.mem_sKept _ _).mpr ⟨fun h => absurd (List.mem_singleton.mp h) (by decide), List.not_mem_nil⟩)]
    rfl

/-- The reference's index array after its wrap of negative indices, as start indices. -/
def wrapped (x : IVec S16384x26 32) : IVec S16384x26x1 32 :=
  broadcastInDim S16384x26x1 ![0, 1] bcast_S16384x26_S16384x26x1_0_1
    (select (cmpi .slt x (broadcastInDim S16384x26 ![] bcast_S_S16384x26 (constantI S_ 32 0#32)))
      (addi x (broadcastInDim S16384x26 ![] bcast_S_S16384x26 (constantI S_ 32 100000#32))) x)

/-- An index in range is not wrapped. -/
theorem wrapped_apply (x : IVec S16384x26 32) (b : Fin 16384) (f : Fin 26) (u : Fin 1) (hx : (x (ix2 b f)).toNat < 100000) :
    wrapped x (ix3 b f u) = x (ix2 b f) := by
  refine (broadcastInDim_apply _ _ _ _ (ix2 b f) (fun a => match a with | ⟨0, _⟩ => rfl | ⟨1, _⟩ => rfl)).trans ?_
  show Scalar.select (IntOp.cmpi .slt (x (ix2 b f)) 0#32) _ _ = _
  have : IntOp.cmpi .slt (x (ix2 b f)) 0#32 = 0#1 := by
    refine eq_zero_of_ne_one fun e => ?_
    have := IntOp.cmpi_slt.1 e
    rw [word_toInt _ hx] at this
    simp at this
    omega
  rw [this, select_zero]

/-- The reference's result of an index array and a table. -/
def refOut (F : FTy → Type) [FloatOps F] (x : IVec S16384x26 32) (t : IVec S100000 32) : FVec F S16384x26x2 .f32 :=
  select (broadcastInDim S16384x26x2 ![0, 1] bcast_S16384x26_S16384x26x2_0_1
      (Host.reduce IntOp.andi
        (andi (cmpi .sge (wrapped x) (broadcastInDim S16384x26x1 ![] bcast_S_S16384x26x1 (constantI S_ 32 0#32)))
          (cmpi .sle (wrapped x) (broadcastInDim S16384x26x1 ![0, 1, 2] bcast_S1x1x1_S16384x26x1_0_1_2
            (broadcastInDim S1x1x1 ![2] bcast_S1_S1x1x1_2 (constantI S1 32 99999#32)))))
        (constantI S_ 1 1#1) reducesTo_S16384x26x1_S16384x26_d2 h_S_))
    (Host.gather gather_S100000x2_S16384x26x1_S16384x26x2_2_0_n_n_0_2_12
      (extf .f32 (bitcastToFloat (F := F) .bf16 (Host.bitcastConvertNarrow S100000x2 16 t splits_S100000_w32_S100000x2_w16)) bitsLt_bf16_f32)
      (wrapped x))
    (broadcastInDim S16384x26x2 ![] bcast_S_S16384x26x2 (constant S_ .f32 0x7FC00000#32))

/-- The table's halves as numbers, read at a row and a half. -/
theorem wide_apply {F : FTy → Type} [FloatOps F] (t : IVec S100000 32) (r : Fin 100000) (h : Fin 2) :
    extf .f32 (bitcastToFloat (F := F) .bf16 (Host.bitcastConvertNarrow S100000x2 16 t splits_S100000_w32_S100000x2_w16)) bitsLt_bf16_f32 (ix2 r h)
      = half (t (ix1 r)) h.val := by
  have e : Shape.SplitsWords.drop splits_S100000_w32_S100000x2_w16 (ix2 r h) = ix1 r := by
    funext a
    match a with
    | ⟨0, _⟩ => rfl
  show FloatOps.extf .f32 _ (FloatOps.ofBits .bf16 (Host.bitcastConvertNarrow _ 16 t _ _)) = _
  rw [Host.bitcastConvertNarrow_apply, e]
  rfl

/-- The mask of in-range indices, at an array whose indices all are. -/
theorem mask_apply (x : IVec S16384x26 32) (hx : ∀ j, (x j).toNat < 100000) (j : S16384x26.Idx) :
    Host.reduce IntOp.andi
        (andi (cmpi .sge (wrapped x) (broadcastInDim S16384x26x1 ![] bcast_S_S16384x26x1 (constantI S_ 32 0#32)))
          (cmpi .sle (wrapped x) (broadcastInDim S16384x26x1 ![0, 1, 2] bcast_S1x1x1_S16384x26x1_0_1_2
            (broadcastInDim S1x1x1 ![2] bcast_S1_S1x1x1_2 (constantI S1 32 99999#32)))))
        (constantI S_ 1 1#1) reducesTo_S16384x26x1_S16384x26_d2 h_S_ j = 1#1 := by
  refine Host.reduce_andi_one _ _ _ _ j rfl fun i => ?_
  have hw : wrapped x i = x (ix2 (i 0) (i 1)) :=
    (congrArg (wrapped x) (eq_ix3 i)).trans (wrapped_apply x (i 0) (i 1) (i 2) (hx _))
  show IntOp.andi (IntOp.cmpi .sge (wrapped x i) 0#32) (IntOp.cmpi .sle (wrapped x i) 99999#32) = 1#1
  rw [hw]
  have hv := hx (ix2 (i 0) (i 1))
  generalize x (ix2 (i 0) (i 1)) = v at hv
  refine IntOp.andi_eq_one.2 ⟨IntOp.cmpi_sge.2 ?_, IntOp.cmpi_sle.2 ?_⟩
  · rw [word_toInt _ hv]
    simp
  · rw [word_toInt _ hv]
    simp
    omega

/-- The reference's result at `(b, f, h)`: half `h` of the table's word at the index `(b, f)`. -/
theorem refOut_apply {F : FTy → Type} [FloatOps F] (x : IVec S16384x26 32) (t : IVec S100000 32)
    (hx : ∀ j, (x j).toNat < 100000) (b : Fin 16384) (f : Fin 26) (h : Fin 2) :
    refOut F x t (ix3 b f h) = half (t (ix1 ⟨(x (ix2 b f)).toNat, hx _⟩)) h.val := by
  unfold refOut
  rw [select_apply]
  have hb : broadcastInDim S16384x26x2 ![0, 1] bcast_S16384x26_S16384x26x2_0_1
      (Host.reduce IntOp.andi
        (andi (cmpi .sge (wrapped x) (broadcastInDim S16384x26x1 ![] bcast_S_S16384x26x1 (constantI S_ 32 0#32)))
          (cmpi .sle (wrapped x) (broadcastInDim S16384x26x1 ![0, 1, 2] bcast_S1x1x1_S16384x26x1_0_1_2
            (broadcastInDim S1x1x1 ![2] bcast_S1_S1x1x1_2 (constantI S1 32 99999#32)))))
        (constantI S_ 1 1#1) reducesTo_S16384x26x1_S16384x26_d2 h_S_) (ix3 b f h) = 1#1 := mask_apply x hx _
  rw [hb, select_one]
  have hw := wrapped_apply x b f 0 (hx _)
  rw [gather_apply _ _ b f h (by rw [hw]; exact hx _)]
  refine (wide_apply t _ h).trans (congrArg (fun w => half (F := F) w h.val) (congrArg t (funext fun a => Fin.ext ?_)))
  match a with
  | ⟨0, _⟩ => exact congrArg BitVec.toNat hw

end Reference

/-! ## The two agree -/

/-- Of one index array in range and one table, the kernel's result is the reference's. -/
theorem result_eq_refOut {F : FTy → Type} [FloatOps F] (x : Cert.KernelIdeal.S16384x26.Idx → BitVec 32) (t : Cert.KernelIdeal.S100000.Idx → BitVec 32)
    (hx : ∀ j, (x j).toNat < 100000) :
    result (F := F) t (shapeCast Cert.KernelIdeal.S425984 x Cert.KernelIdeal.Gen.shapeCasts_S16384x26_S425984) = refOut F x t := by
  funext j
  rw [eq_ix3 j]
  generalize j 0 = b, j 1 = f, j 2 = h
  refine (result_apply t _ b f h).trans ((congrArg (fun w => half (F := F) w h.val) ?_).trans (refOut_apply x t hx b f h).symm)
  have hb : b.val < 16384 := b.isLt
  have hf : f.val < 26 := f.isLt
  have hfl : shapeCast Cert.KernelIdeal.S425984 x Cert.KernelIdeal.Gen.shapeCasts_S16384x26_S425984 (iIx (b.val * 26 + f.val)) = x (ix2 b f) := by
    refine shapeCast_apply _ _ _ _ ?_
    rw [Shape.rowMajor_val_one, Shape.rowMajor_val_two, iIx_val (by omega)]
    rfl
  unfold word
  rw [hfl]
  refine congrArg t (funext fun a => Fin.ext ?_)
  match a with
  | ⟨0, _⟩ => exact tIx_val (hx _)

end Cert.Proof.Lookup

end
-- ==== Proof.lean ====
/-
  The proof of `Cert.Claim` (proofs.«01_k».proof.Defs): for the lookup on the SparseCore and for the score table on the
  TensorCore, each, the frames, and at the reals the kernel's result equal to the reference's. A kernel's run is proved
  once for both readings of its text (Proof/Main.lean's and Proof/Dense.lean's `run_main`); a reference's is generated
  (`Value.run`); that the two results are one array is Proof/Ref.lean's `result_eq_refOut` for the lookup and
  Proof/DenseValue.lean's `result_of` for the table.
-/
module

public import proofs.«01_k».proof.Proof.Gen.ReferenceIdeal.Run
public import proofs.«01_k».proof.Proof.Gen.TableReferenceIdeal.Run
public import proofs.«01_k».proof.Proof.Gen.Table
public import proofs.«01_k».proof.Proof.DenseValue
public import proofs.«01_k».proof.Defs
public import proofs.«01_k».proof.Proof.Ref
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem

/-- The kernel's precondition at the words is the run's: every index is in range. -/
theorem ok_Kernel (m : (ℓ : Loc Cert.Kernel.nD Cert.Kernel.τ Cert.Kernel.sig) → Buf (Elt Bits) ℓ) (h : Cert.Pre_Kernel m) :
    Lookup.PreOK (F := Bits) m := fun d j => Lookup.idx_lt _ _ (h d) j

/-- The same at the reals. -/
theorem ok_KernelIdeal (m : (ℓ : Loc Cert.KernelIdeal.nD Cert.KernelIdeal.τ Cert.KernelIdeal.sig) → Buf (Elt Ideal) ℓ)
    (h : Cert.Pre_KernelIdeal m) : Lookup.PreOK (F := Ideal) m := fun d j => Lookup.idx_lt _ _ (h d) j

/-- The kernel runs to completion, its arguments unchanged and every counter back at zero. -/
theorem frame_Kernel : Cert.quiescent_Kernel := fun m ρ hpre =>
  (θ_run (Cert.KernelIdeal.defs (F := Bits)) _ _).mono (fun _ h => ⟨fun c => (h.1 c).2, h.2⟩)
    (Lookup.run_main (F := Bits) m ρ (ok_Kernel m hpre))

/-- The kernel read at the reals, the same. -/
theorem frame_KernelIdeal : Cert.quiescent_KernelIdeal := fun m ρ hpre =>
  (θ_run (Cert.KernelIdeal.defs (F := Ideal)) _ _).mono (fun _ h => ⟨fun c => (h.1 c).2, h.2⟩)
    (Lookup.run_main (F := Ideal) m ρ (ok_KernelIdeal m hpre))

/-- The reference runs to completion, its arguments unchanged; it has no counters. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At the reals the kernel and the reference end with one result: the looked-up scores. -/
theorem algebraic : Cert.algebraic_KernelIdeal_ReferenceIdeal := by
  intro m ρ m' ρ' hpre hagree
  have hok := ok_KernelIdeal m hpre
  refine ⟨fun c => Lookup.result (F := Ideal) (Lookup.tabOf m c) (Lookup.flatOf m c),
    (θ_run (Cert.KernelIdeal.defs (F := Ideal)) _ _).mono (fun _ h c => h.1 c) (Lookup.run_main (F := Ideal) m ρ hok), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Lookup.result_eq_refOut (F := Ideal) _ _ (hok c)).symm

/-- The two prints of the table call dispatch to one body. -/
theorem defs₀_same : Cert.Table.defs₀ (F := Bits) = Cert.TableIdeal.defs₀ (F := Bits) := by
  unfold Cert.Table.defs₀ Cert.TableIdeal.defs₀
  refine congrArg Defs.onTc ?_
  funext l a
  match l, a with
  | 0, (t, s) => rfl
  | ⟨_ + 1, h⟩, _ => exact absurd h (Nat.not_lt.2 (Nat.le_add_left _ _))

/-- The two prints of the table call are one program text. -/
theorem defs_same : Cert.Table.defs (F := Bits) = Cert.TableIdeal.defs (F := Bits) := by
  unfold Cert.Table.defs Cert.TableIdeal.defs
  rw [defs₀_same]
  rfl

/-- The table's call runs to completion, its arguments unchanged and every counter back at zero. -/
theorem frame_Table : Cert.quiescent_Table := by
  intro m ρ _
  have h := (θ_run (Cert.TableIdeal.defs (F := Bits)) _ _).mono
    (fun _ h => (⟨fun c => Dense.args_of (F := Bits) m h.1 c, h.2⟩ : (∀ c, _) ∧ _)) (Dense.run_main (F := Bits) m ρ)
  rw [defs_same]
  exact h

/-- The same read at the reals. -/
theorem frame_TableIdeal : Cert.quiescent_TableIdeal := fun m ρ _ =>
  (θ_run (Cert.TableIdeal.defs (F := Ideal)) _ _).mono (fun _ h => ⟨fun c => Dense.args_of (F := Ideal) m h.1 c, h.2⟩)
    (Dense.run_main (F := Ideal) m ρ)

/-- The table's reference runs to completion, its arguments unchanged; it has no counters. -/
theorem frame_TableReferenceIdeal : Cert.quiescent_TableReferenceIdeal := fun m ρ _ =>
  (θ_run Cert.TableReferenceIdeal.defs _ _).mono
    (fun r h => ⟨fun c => (h c).2, sem_eq_zero_of_no_sems (by decide) r.2⟩)
    (Cert.TableReferenceIdeal.Value.run (F := Ideal) m ρ)

/-- At the reals the table's call and its reference end with one result: every row's two scores. -/
theorem algebraic_Table : Cert.algebraic_TableIdeal_TableReferenceIdeal := by
  intro m ρ m' ρ' _ hagree
  refine ⟨fun c => Dense.table m c,
    (θ_run (Cert.TableIdeal.defs (F := Ideal)) _ _).mono (fun _ h c => ⟨Dense.result_of m h.1 c, Dense.args_of (F := Ideal) m h.1 c⟩)
      (Dense.run_main (F := Ideal) m ρ), ?_⟩
  refine (θ_run Cert.TableReferenceIdeal.defs _ _).mono (fun _ h c => ⟨(h c).1.trans ?_, (h c).2⟩)
    (Cert.TableReferenceIdeal.Value.run (F := Ideal) m' ρ')
  obtain ⟨h0, h1, h2, h3, h4, h5, h6⟩ := hagree c
  rw [h0, h1, h2, h3, h4, h5, h6]
  rfl

theorem claim : Cert.Claim :=
  ⟨Cert.Kernel.Gen.facts, Cert.KernelIdeal.Gen.facts, Cert.ReferenceIdeal.Gen.facts, Cert.Table.Gen.facts,
    Cert.TableIdeal.Gen.facts, Cert.TableReferenceIdeal.Gen.facts, Cert.Pre_in_range.Gen.facts,
    frame_Kernel, frame_KernelIdeal, frame_ReferenceIdeal, frame_Table, frame_TableIdeal, frame_TableReferenceIdeal,
    trivial, algebraic, trivial, algebraic_Table⟩

end Cert.Proof

end
